-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x48x64x4 : Shape := ⟨4, ![16, 48, 64, 4]⟩
abbrev S16x48 : Shape := ⟨2, ![16, 48]⟩
abbrev S16x48x5 : Shape := ⟨3, ![16, 48, 5]⟩
abbrev S16x4x48x48 : Shape := ⟨4, ![16, 4, 48, 48]⟩
abbrev S16x128x48 : Shape := ⟨3, ![16, 128, 48]⟩
abbrev S16x128x8x2 : Shape := ⟨4, ![16, 128, 8, 2]⟩
abbrev S256 : Shape := ⟨1, ![256]⟩
abbrev S768x100 : Shape := ⟨2, ![768, 100]⟩
abbrev S768x256 : Shape := ⟨2, ![768, 256]⟩
abbrev S768 : Shape := ⟨1, ![768]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S16x48x256 : Shape := ⟨3, ![16, 48, 256]⟩
abbrev S16x1x48 : Shape := ⟨3, ![16, 1, 48]⟩
abbrev S16x128x8x1 : Shape := ⟨4, ![16, 128, 8, 1]⟩
abbrev S16x128x8 : Shape := ⟨3, ![16, 128, 8]⟩
abbrev S1x256 : Shape := ⟨2, ![1, 256]⟩
abbrev S1x768 : Shape := ⟨2, ![1, 768]⟩
abbrev S1x1 : Shape := ⟨2, ![1, 1]⟩
abbrev S16x1x512 : Shape := ⟨3, ![16, 1, 512]⟩
abbrev S16x128x1 : Shape := ⟨3, ![16, 128, 1]⟩
abbrev S1x48x256 : Shape := ⟨3, ![1, 48, 256]⟩
abbrev S1x1x48 : Shape := ⟨3, ![1, 1, 48]⟩
abbrev S1x48x5 : Shape := ⟨3, ![1, 48, 5]⟩
abbrev S1x128x48 : Shape := ⟨3, ![1, 128, 48]⟩
abbrev S1x128x8 : Shape := ⟨3, ![1, 128, 8]⟩
abbrev S1x1x512 : Shape := ⟨3, ![1, 1, 512]⟩
abbrev S1x128x1 : Shape := ⟨3, ![1, 128, 1]⟩
abbrev S48x256 : Shape := ⟨2, ![48, 256]⟩
abbrev S1x48 : Shape := ⟨2, ![1, 48]⟩
abbrev S128x48 : Shape := ⟨2, ![128, 48]⟩
abbrev S48x1 : Shape := ⟨2, ![48, 1]⟩
abbrev S128x256 : Shape := ⟨2, ![128, 256]⟩
abbrev S128 : Shape := ⟨1, ![128]⟩
abbrev S128x1 : Shape := ⟨2, ![128, 1]⟩
abbrev S5x100 : Shape := ⟨2, ![5, 100]⟩
abbrev S48x5 : Shape := ⟨2, ![48, 5]⟩
abbrev S48x100 : Shape := ⟨2, ![48, 100]⟩
abbrev S128x100 : Shape := ⟨2, ![128, 100]⟩
abbrev S128x768 : Shape := ⟨2, ![128, 768]⟩
abbrev S128x512 : Shape := ⟨2, ![128, 512]⟩
abbrev S128x8 : Shape := ⟨2, ![128, 8]⟩

abbrev nBuf : Space → Nat
  | .hbm => 42
  | .vmem => 32
  | .smem => 0
  | _ => 0

abbrev bufTy : (tb : Table) → Fin (tcTables nBuf tb) → BufTy
  | .hbm, ⟨0, _⟩ => ⟨S16x48x64x4, .f32⟩
  | .hbm, ⟨1, _⟩ => ⟨S16x48, .f32⟩
  | .hbm, ⟨2, _⟩ => ⟨S16x48x5, .i32⟩
  | .hbm, ⟨3, _⟩ => ⟨S16x4x48x48, .f32⟩
  | .hbm, ⟨4, _⟩ => ⟨S16x128x48, .i32⟩
  | .hbm, ⟨5, _⟩ => ⟨S16x128x8x2, .f32⟩
  | .hbm, ⟨6, _⟩ => ⟨S256, .f32⟩
  | .hbm, ⟨7, _⟩ => ⟨S256, .f32⟩
  | .hbm, ⟨8, _⟩ => ⟨S768x100, .f32⟩
  | .hbm, ⟨9, _⟩ => ⟨S768x256, .f32⟩
  | .hbm, ⟨10, _⟩ => ⟨S768, .f32⟩
  | .hbm, ⟨11, _⟩ => ⟨S768, .f32⟩
  | .hbm, ⟨12, _⟩ => ⟨S512x256, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S1, .f32⟩
  | .hbm, ⟨22, _⟩ => ⟨S16x48x256, .f32⟩
  | .hbm, ⟨23, _⟩ => ⟨S16x1x48, .f32⟩
  | .hbm, ⟨24, _⟩ => ⟨S16x48x5, .f32⟩
  | .hbm, ⟨25, _⟩ => ⟨S16x128x48, .f32⟩
  | .hbm, ⟨26, _⟩ => ⟨S16x128x8x1, .f32⟩
  | .hbm, ⟨27, _⟩ => ⟨S16x128x8, .f32⟩
  | .hbm, ⟨28, _⟩ => ⟨S16x128x8x1, .f32⟩
  | .hbm, ⟨29, _⟩ => ⟨S16x128x8, .f32⟩
  | .hbm, ⟨30, _⟩ => ⟨S1x256, .f32⟩
  | .hbm, ⟨31, _⟩ => ⟨S1x256, .f32⟩
  | .hbm, ⟨32, _⟩ => ⟨S1x768, .f32⟩
  | .hbm, ⟨33, _⟩ => ⟨S1x768, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x1, .f32⟩
  | .hbm, ⟨40, _⟩ => ⟨S16x1x512, .f32⟩
  | .hbm, ⟨41, _⟩ => ⟨S16x128x1, .f32⟩
  | .local _ .vmem, ⟨0, _⟩ => ⟨S1x48x256, .f32⟩
  | .local _ .vmem, ⟨1, _⟩ => ⟨S1x48x256, .f32⟩
  | .local _ .vmem, ⟨2, _⟩ => ⟨S1x1x48, .f32⟩
  | .local _ .vmem, ⟨3, _⟩ => ⟨S1x1x48, .f32⟩
  | .local _ .vmem, ⟨4, _⟩ => ⟨S1x48x5, .f32⟩
  | .local _ .vmem, ⟨5, _⟩ => ⟨S1x48x5, .f32⟩
  | .local _ .vmem, ⟨6, _⟩ => ⟨S1x128x48, .f32⟩
  | .local _ .vmem, ⟨7, _⟩ => ⟨S1x128x48, .f32⟩
  | .local _ .vmem, ⟨8, _⟩ => ⟨S1x128x8, .f32⟩
  | .local _ .vmem, ⟨9, _⟩ => ⟨S1x128x8, .f32⟩
  | .local _ .vmem, ⟨10, _⟩ => ⟨S1x128x8, .f32⟩
  | .local _ .vmem, ⟨11, _⟩ => ⟨S1x128x8, .f32⟩
  | .local _ .vmem, ⟨12, _⟩ => ⟨S1x256, .f32⟩
  | .local _ .vmem, ⟨13, _⟩ => ⟨S1x256, .f32⟩
  | .local _ .vmem, ⟨14, _⟩ => ⟨S768x100, .f32⟩
  | .local _ .vmem, ⟨15, _⟩ => ⟨S768x256, .f32⟩
  | .local _ .vmem, ⟨16, _⟩ => ⟨S1x768, .f32⟩
  | .local _ .vmem, ⟨17, _⟩ => ⟨S1x768, .f32⟩
  | .local _ .vmem, ⟨18, _⟩ => ⟨S512x256, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S512x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x1, .f32⟩
  | .local _ .vmem, ⟨28, _⟩ => ⟨S1x1x512, .f32⟩
  | .local _ .vmem, ⟨29, _⟩ => ⟨S1x1x512, .f32⟩
  | .local _ .vmem, ⟨30, _⟩ => ⟨S1x128x1, .f32⟩
  | .local _ .vmem, ⟨31, _⟩ => ⟨S1x128x1, .f32⟩
  | _, _ => ⟨S16x48x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x48x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x1x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S16x48x64x4 : Shape := ⟨4, ![16, 48, 64, 4]⟩
abbrev S16x48 : Shape := ⟨2, ![16, 48]⟩
abbrev S16x48x5 : Shape := ⟨3, ![16, 48, 5]⟩
abbrev S16x4x48x48 : Shape := ⟨4, ![16, 4, 48, 48]⟩
abbrev S16x128x48 : Shape := ⟨3, ![16, 128, 48]⟩
abbrev S16x128x8x2 : Shape := ⟨4, ![16, 128, 8, 2]⟩
abbrev S256 : Shape := ⟨1, ![256]⟩
abbrev S768x100 : Shape := ⟨2, ![768, 100]⟩
abbrev S768x256 : Shape := ⟨2, ![768, 256]⟩
abbrev S768 : Shape := ⟨1, ![768]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S16x48x256 : Shape := ⟨3, ![16, 48, 256]⟩
abbrev S16x48x1 : Shape := ⟨3, ![16, 48, 1]⟩
abbrev S16x1x48 : Shape := ⟨3, ![16, 1, 48]⟩
abbrev S16x128x256 : Shape := ⟨3, ![16, 128, 256]⟩
abbrev S16x128x5 : Shape := ⟨3, ![16, 128, 5]⟩
abbrev S2048x5 : Shape := ⟨2, ![2048, 5]⟩
abbrev S2048x1 : Shape := ⟨2, ![2048, 1]⟩
abbrev S2048 : Shape := ⟨1, ![2048]⟩
abbrev S_ : Shape := ⟨0, ![]⟩
abbrev S1x20 : Shape := ⟨2, ![1, 20]⟩
abbrev S2048x20 : Shape := ⟨2, ![2048, 20]⟩
abbrev S2048x100 : Shape := ⟨2, ![2048, 100]⟩
abbrev S16x128x100 : Shape := ⟨3, ![16, 128, 100]⟩
abbrev S16x128 : Shape := ⟨2, ![16, 128]⟩
abbrev S16x128x1 : Shape := ⟨3, ![16, 128, 1]⟩
abbrev S1x1x256 : Shape := ⟨3, ![1, 1, 256]⟩
abbrev S2048x256 : Shape := ⟨2, ![2048, 256]⟩
abbrev S100x768 : Shape := ⟨2, ![100, 768]⟩
abbrev S2048x768 : Shape := ⟨2, ![2048, 768]⟩
abbrev S1x768 : Shape := ⟨2, ![1, 768]⟩
abbrev S256x768 : Shape := ⟨2, ![256, 768]⟩
abbrev S256x512 : Shape := ⟨2, ![256, 512]⟩
abbrev S16x128x512 : Shape := ⟨3, ![16, 128, 512]⟩
abbrev S1x1x512 : Shape := ⟨3, ![1, 1, 512]⟩
abbrev S512x1 : Shape := ⟨2, ![512, 1]⟩
abbrev S1x1x1 : Shape := ⟨3, ![1, 1, 1]⟩
abbrev S16 : Shape := ⟨1, ![16]⟩
abbrev S16x1 : Shape := ⟨2, ![16, 1]⟩
abbrev S16x128x8x1 : Shape := ⟨4, ![16, 128, 8, 1]⟩
abbrev S16x128x8 : Shape := ⟨3, ![16, 128, 8]⟩
abbrev S16x1x1 : Shape := ⟨3, ![16, 1, 1]⟩
abbrev S16384 : Shape := ⟨1, ![16384]⟩
abbrev S8192 : Shape := ⟨1, ![8192]⟩
abbrev S16384x1 : Shape := ⟨2, ![16384, 1]⟩
abbrev S16x512 : Shape := ⟨2, ![16, 512]⟩
abbrev S16x1x512 : Shape := ⟨3, ![16, 1, 512]⟩

abbrev nBuf : Space → Nat
  | .hbm => 332
  | .vmem => 0
  | .smem => 0
  | _ => 0

abbrev hbmTy0_0 (i : Nat) : BufTy := match i % 128 with
  | 0 => ⟨S16x48x64x4, .f32⟩
  | 1 => ⟨S16x48, .f32⟩
  | 2 => ⟨S16x48x5, .i32⟩
  | 3 => ⟨S16x4x48x48, .f32⟩
  | 4 => ⟨S16x128x48, .i32⟩
  | 5 => ⟨S16x128x8x2, .f32⟩
  | 6 => ⟨S256, .f32⟩
  | 7 => ⟨S256, .f32⟩
  | 8 => ⟨S768x100, .f32⟩
  | 9 => ⟨S768x256, .f32⟩
  | 10 => ⟨S768, .f32⟩
  | 11 => ⟨S768, .f32⟩
  | 12 => ⟨S512x256, .f32⟩
  | 13 => ⟨S512, .f32⟩
  | 14 => ⟨S512x512, .f32⟩
  | 15 => ⟨S512, .f32⟩
  | 16 => ⟨S512x512, .f32⟩
  | 17 => ⟨S512, .f32⟩
  | 18 => ⟨S512, .f32⟩
  | 19 => ⟨S512, .f32⟩
  | 20 => ⟨S1x512, .f32⟩
  | 21 => ⟨S1, .f32⟩
  | 22 => ⟨S16x48x256, .f32⟩
  | 23 => ⟨S16x48x1, .f32⟩
  | 24 => ⟨S16x48x256, .f32⟩
  | 25 => ⟨S16x48x256, .f32⟩
  | 26 => ⟨S16x128x48, .f32⟩
  | 27 => ⟨S16x1x48, .f32⟩
  | 28 => ⟨S16x128x48, .f32⟩
  | 29 => ⟨S16x128x48, .f32⟩
  | 30 => ⟨S16x128x256, .f32⟩
  | 31 => ⟨S16x48x5, .f32⟩
  | 32 => ⟨S16x128x48, .f32⟩
  | 33 => ⟨S16x128x5, .f32⟩
  | 34 => ⟨S16x128x5, .i32⟩
  | 35 => ⟨S2048x5, .i32⟩
  | 36 => ⟨S2048x1, .i32⟩
  | 37 => ⟨S2048, .i32⟩
  | 38 => ⟨S_, .i32⟩
  | 39 => ⟨S_, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048x1, .i32⟩
  | 47 => ⟨S1x20, .i32⟩
  | 48 => ⟨S2048x20, .i32⟩
  | 49 => ⟨S2048x20, .i32⟩
  | 50 => ⟨S2048x20, .i1⟩
  | 51 => ⟨S2048x20, .f32⟩
  | 52 => ⟨S_, .f32⟩
  | 53 => ⟨S_, .f32⟩
  | 54 => ⟨S2048x20, .f32⟩
  | 55 => ⟨S2048x1, .i32⟩
  | 56 => ⟨S2048, .i32⟩
  | 57 => ⟨S_, .i32⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048x1, .i32⟩
  | 66 => ⟨S1x20, .i32⟩
  | 67 => ⟨S2048x20, .i32⟩
  | 68 => ⟨S2048x20, .i32⟩
  | 69 => ⟨S2048x20, .i1⟩
  | 70 => ⟨S2048x20, .f32⟩
  | 71 => ⟨S_, .f32⟩
  | 72 => ⟨S_, .f32⟩
  | 73 => ⟨S2048x20, .f32⟩
  | 74 => ⟨S2048x1, .i32⟩
  | 75 => ⟨S2048, .i32⟩
  | 76 => ⟨S_, .i32⟩
  | 77 => ⟨S_, .i32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S2048x1, .i32⟩
  | 85 => ⟨S1x20, .i32⟩
  | 86 => ⟨S2048x20, .i32⟩
  | 87 => ⟨S2048x20, .i32⟩
  | 88 => ⟨S2048x20, .i1⟩
  | 89 => ⟨S2048x20, .f32⟩
  | 90 => ⟨S_, .f32⟩
  | 91 => ⟨S_, .f32⟩
  | 92 => ⟨S2048x20, .f32⟩
  | 93 => ⟨S2048x1, .i32⟩
  | 94 => ⟨S2048, .i32⟩
  | 95 => ⟨S_, .i32⟩
  | 96 => ⟨S_, .i32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S2048x1, .i32⟩
  | 104 => ⟨S1x20, .i32⟩
  | 105 => ⟨S2048x20, .i32⟩
  | 106 => ⟨S2048x20, .i32⟩
  | 107 => ⟨S2048x20, .i1⟩
  | 108 => ⟨S2048x20, .f32⟩
  | 109 => ⟨S_, .f32⟩
  | 110 => ⟨S_, .f32⟩
  | 111 => ⟨S2048x20, .f32⟩
  | 112 => ⟨S2048x1, .i32⟩
  | 113 => ⟨S2048, .i32⟩
  | 114 => ⟨S_, .i32⟩
  | 115 => ⟨S_, .i32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S2048x1, .i32⟩
  | 123 => ⟨S1x20, .i32⟩
  | 124 => ⟨S2048x20, .i32⟩
  | 125 => ⟨S2048x20, .i32⟩
  | 126 => ⟨S2048x20, .i1⟩
  | 127 => ⟨S2048x20, .f32⟩
  | _ => ⟨S16x48x64x4, .f32⟩

abbrev hbmTy0_1 (i : Nat) : BufTy := match i % 128 with
  | 0 => ⟨S_, .f32⟩
  | 1 => ⟨S_, .f32⟩
  | 2 => ⟨S2048x20, .f32⟩
  | 3 => ⟨S2048x100, .f32⟩
  | 4 => ⟨S16x128x100, .f32⟩
  | 5 => ⟨S_, .f32⟩
  | 6 => ⟨S16x128, .f32⟩
  | 7 => ⟨S_, .f32⟩
  | 8 => ⟨S16x128, .f32⟩
  | 9 => ⟨S16x128, .f32⟩
  | 10 => ⟨S16x128x1, .f32⟩
  | 11 => ⟨S16x128x256, .f32⟩
  | 12 => ⟨S16x128x256, .f32⟩
  | 13 => ⟨S_, .f32⟩
  | 14 => ⟨S16x128, .f32⟩
  | 15 => ⟨S16x128x1, .f32⟩
  | 16 => ⟨S_, .f32⟩
  | 17 => ⟨S16x128x1, .f32⟩
  | 18 => ⟨S16x128x1, .f32⟩
  | 19 => ⟨S16x128x256, .f32⟩
  | 20 => ⟨S16x128x256, .f32⟩
  | 21 => ⟨S16x128x256, .f32⟩
  | 22 => ⟨S_, .f32⟩
  | 23 => ⟨S16x128, .f32⟩
  | 24 => ⟨S16x128x1, .f32⟩
  | 25 => ⟨S_, .f32⟩
  | 26 => ⟨S16x128x1, .f32⟩
  | 27 => ⟨S16x128x1, .f32⟩
  | 28 => ⟨S16x128x256, .f32⟩
  | 29 => ⟨S16x128x256, .f32⟩
  | 30 => ⟨S_, .f32⟩
  | 31 => ⟨S16x128x1, .f32⟩
  | 32 => ⟨S16x128x1, .f32⟩
  | 33 => ⟨S16x128x1, .f32⟩
  | 34 => ⟨S16x128x256, .f32⟩
  | 35 => ⟨S16x128x256, .f32⟩
  | 36 => ⟨S1x1x256, .f32⟩
  | 37 => ⟨S16x128x256, .f32⟩
  | 38 => ⟨S16x128x256, .f32⟩
  | 39 => ⟨S1x1x256, .f32⟩
  | 40 => ⟨S16x128x256, .f32⟩
  | 41 => ⟨S16x128x256, .f32⟩
  | 42 => ⟨S2048x256, .f32⟩
  | 43 => ⟨S2048x100, .f32⟩
  | 44 => ⟨S100x768, .f32⟩
  | 45 => ⟨S2048x768, .f32⟩
  | 46 => ⟨S1x768, .f32⟩
  | 47 => ⟨S2048x768, .f32⟩
  | 48 => ⟨S2048x768, .f32⟩
  | 49 => ⟨S256x768, .f32⟩
  | 50 => ⟨S2048x768, .f32⟩
  | 51 => ⟨S1x768, .f32⟩
  | 52 => ⟨S2048x768, .f32⟩
  | 53 => ⟨S2048x768, .f32⟩
  | 54 => ⟨S2048x256, .f32⟩
  | 55 => ⟨S2048x256, .f32⟩
  | 56 => ⟨S2048x256, .f32⟩
  | 57 => ⟨S2048x256, .f32⟩
  | 58 => ⟨S2048x256, .f32⟩
  | 59 => ⟨S2048x256, .f32⟩
  | 60 => ⟨S2048x256, .f32⟩
  | 61 => ⟨S2048x256, .f32⟩
  | 62 => ⟨S2048x256, .f32⟩
  | 63 => ⟨S_, .f32⟩
  | 64 => ⟨S2048x256, .f32⟩
  | 65 => ⟨S2048x256, .f32⟩
  | 66 => ⟨S_, .f32⟩
  | 67 => ⟨S2048x256, .f32⟩
  | 68 => ⟨S2048x256, .f32⟩
  | 69 => ⟨S2048x256, .f32⟩
  | 70 => ⟨S2048x256, .f32⟩
  | 71 => ⟨S2048x256, .f32⟩
  | 72 => ⟨S_, .f32⟩
  | 73 => ⟨S2048x256, .f32⟩
  | 74 => ⟨S2048x256, .f32⟩
  | 75 => ⟨S_, .f32⟩
  | 76 => ⟨S2048x256, .f32⟩
  | 77 => ⟨S2048x256, .f32⟩
  | 78 => ⟨S2048x256, .f32⟩
  | 79 => ⟨S2048x256, .f32⟩
  | 80 => ⟨S2048x256, .f32⟩
  | 81 => ⟨S_, .f32⟩
  | 82 => ⟨S2048x256, .f32⟩
  | 83 => ⟨S2048x256, .f32⟩
  | 84 => ⟨S2048x256, .f32⟩
  | 85 => ⟨S2048x256, .f32⟩
  | 86 => ⟨S2048x256, .f32⟩
  | 87 => ⟨S16x128x256, .f32⟩
  | 88 => ⟨S256x512, .f32⟩
  | 89 => ⟨S16x128x512, .f32⟩
  | 90 => ⟨S1x1x512, .f32⟩
  | 91 => ⟨S16x128x512, .f32⟩
  | 92 => ⟨S16x128x512, .f32⟩
  | 93 => ⟨S_, .f32⟩
  | 94 => ⟨S16x128x512, .f32⟩
  | 95 => ⟨S16x128x512, .f32⟩
  | 96 => ⟨S512x512, .f32⟩
  | 97 => ⟨S16x128x512, .f32⟩
  | 98 => ⟨S1x1x512, .f32⟩
  | 99 => ⟨S16x128x512, .f32⟩
  | 100 => ⟨S16x128x512, .f32⟩
  | 101 => ⟨S_, .f32⟩
  | 102 => ⟨S16x128x512, .f32⟩
  | 103 => ⟨S16x128x512, .f32⟩
  | 104 => ⟨S512x512, .f32⟩
  | 105 => ⟨S16x128x512, .f32⟩
  | 106 => ⟨S1x1x512, .f32⟩
  | 107 => ⟨S16x128x512, .f32⟩
  | 108 => ⟨S16x128x512, .f32⟩
  | 109 => ⟨S_, .f32⟩
  | 110 => ⟨S16x128x512, .f32⟩
  | 111 => ⟨S16x128x512, .f32⟩
  | 112 => ⟨S_, .f32⟩
  | 113 => ⟨S16x128x512, .f32⟩
  | 114 => ⟨S16x128x512, .f32⟩
  | 115 => ⟨S_, .f32⟩
  | 116 => ⟨S16x128, .f32⟩
  | 117 => ⟨S16x128x1, .f32⟩
  | 118 => ⟨S_, .f32⟩
  | 119 => ⟨S16x128x1, .f32⟩
  | 120 => ⟨S16x128x1, .f32⟩
  | 121 => ⟨S16x128x512, .f32⟩
  | 122 => ⟨S16x128x512, .f32⟩
  | 123 => ⟨S16x128x512, .f32⟩
  | 124 => ⟨S_, .f32⟩
  | 125 => ⟨S16x128, .f32⟩
  | 126 => ⟨S16x128x1, .f32⟩
  | 127 => ⟨S_, .f32⟩
  | _ => ⟨S16x48x64x4, .f32⟩

abbrev hbmTy0_2 (i : Nat) : BufTy := match i % 128 with
  | 0 => ⟨S16x128x1, .f32⟩
  | 1 => ⟨S16x128x1, .f32⟩
  | 2 => ⟨S16x128x512, .f32⟩
  | 3 => ⟨S16x128x512, .f32⟩
  | 4 => ⟨S_, .f32⟩
  | 5 => ⟨S16x128x1, .f32⟩
  | 6 => ⟨S16x128x1, .f32⟩
  | 7 => ⟨S16x128x1, .f32⟩
  | 8 => ⟨S16x128x512, .f32⟩
  | 9 => ⟨S16x128x512, .f32⟩
  | 10 => ⟨S1x1x512, .f32⟩
  | 11 => ⟨S16x128x512, .f32⟩
  | 12 => ⟨S16x128x512, .f32⟩
  | 13 => ⟨S1x1x512, .f32⟩
  | 14 => ⟨S16x128x512, .f32⟩
  | 15 => ⟨S16x128x512, .f32⟩
  | 16 => ⟨S512x1, .f32⟩
  | 17 => ⟨S16x128x1, .f32⟩
  | 18 => ⟨S1x1x1, .f32⟩
  | 19 => ⟨S16x128x1, .f32⟩
  | 20 => ⟨S16x128x1, .f32⟩
  | 21 => ⟨S16x128, .f32⟩
  | 22 => ⟨S_, .f32⟩
  | 23 => ⟨S16, .f32⟩
  | 24 => ⟨S_, .f32⟩
  | 25 => ⟨S16, .f32⟩
  | 26 => ⟨S16, .f32⟩
  | 27 => ⟨S16x1, .f32⟩
  | 28 => ⟨S16x128, .f32⟩
  | 29 => ⟨S16x128, .f32⟩
  | 30 => ⟨S16x128, .f32⟩
  | 31 => ⟨S_, .f32⟩
  | 32 => ⟨S16, .f32⟩
  | 33 => ⟨S16x1, .f32⟩
  | 34 => ⟨S16x128, .f32⟩
  | 35 => ⟨S16x128, .f32⟩
  | 36 => ⟨S16x128x8x1, .f32⟩
  | 37 => ⟨S16x128x8, .f32⟩
  | 38 => ⟨S16x128x8, .f32⟩
  | 39 => ⟨S16x128x8, .i32⟩
  | 40 => ⟨S_, .i32⟩
  | 41 => ⟨S_, .i32⟩
  | 42 => ⟨S_, .i32⟩
  | 43 => ⟨S16x128x8, .i32⟩
  | 44 => ⟨S16x128x8, .i32⟩
  | 45 => ⟨S_, .i32⟩
  | 46 => ⟨S16x128x8, .i32⟩
  | 47 => ⟨S16x128x8, .i32⟩
  | 48 => ⟨S16x128x8x1, .f32⟩
  | 49 => ⟨S16x128x8, .f32⟩
  | 50 => ⟨S16x128x1, .f32⟩
  | 51 => ⟨S16x128x8, .f32⟩
  | 52 => ⟨S16x128x8, .f32⟩
  | 53 => ⟨S16, .i32⟩
  | 54 => ⟨S16x1x1, .i32⟩
  | 55 => ⟨S_, .i32⟩
  | 56 => ⟨S16x1x1, .i32⟩
  | 57 => ⟨S16x1x1, .i32⟩
  | 58 => ⟨S16x128x8, .i32⟩
  | 59 => ⟨S16x128x8, .i32⟩
  | 60 => ⟨S16384, .i32⟩
  | 61 => ⟨S_, .f32⟩
  | 62 => ⟨S8192, .f32⟩
  | 63 => ⟨S16384, .f32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S8192, .f32⟩
  | 73 => ⟨S16x512, .f32⟩
  | 74 => ⟨S16x1x512, .f32⟩
  | 75 => ⟨S16x128x1, .f32⟩
  | _ => ⟨S16x48x64x4, .f32⟩

abbrev hbmTy (i : Nat) : BufTy := match i / 128 with
  | 0 => hbmTy0_0 i
  | 1 => hbmTy0_1 i
  | 2 => hbmTy0_2 i
  | _ => ⟨S16x48x64x4, .f32⟩

abbrev bufTy : (tb : Table) → Fin (tcTables nBuf tb) → BufTy
  | .hbm, ⟨i, _⟩ => hbmTy i
  | _, _ => ⟨S16x48x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_c_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v16 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v17 : Ref sig .tc := ⟨.hbm, 51, rfl⟩
abbrev main_call2_call0_cst : Ref sig .tc := ⟨.hbm, 52, rfl⟩
abbrev main_call2_call0_v0 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_1 : Ref sig .tc := ⟨.hbm, 57, rfl⟩
abbrev main_c_2 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v21 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v22 : Ref sig .tc := ⟨.hbm, 70, rfl⟩
abbrev main_call5_call0_cst : Ref sig .tc := ⟨.hbm, 71, rfl⟩
abbrev main_call5_call0_v0 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_3 : Ref sig .tc := ⟨.hbm, 76, rfl⟩
abbrev main_c_4 : Ref sig .tc := ⟨.hbm, 77, rfl⟩
abbrev main_call6_v0 : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_v26 : Ref sig .tc := ⟨.hbm, 83, rfl⟩
abbrev main_call7_v0 : Ref sig .tc := ⟨.hbm, 84, rfl⟩
abbrev main_call7_v1 : Ref sig .tc := ⟨.hbm, 85, rfl⟩
abbrev main_call7_v2 : Ref sig .tc := ⟨.hbm, 86, rfl⟩
abbrev main_call7_v3 : Ref sig .tc := ⟨.hbm, 87, rfl⟩
abbrev main_call7_v4 : Ref sig .tc := ⟨.hbm, 88, rfl⟩
abbrev main_v27 : Ref sig .tc := ⟨.hbm, 89, rfl⟩
abbrev main_call8_call0_cst : Ref sig .tc := ⟨.hbm, 90, rfl⟩
abbrev main_call8_call0_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_c_5 : Ref sig .tc := ⟨.hbm, 95, rfl⟩
abbrev main_c_6 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_call9_v3 : Ref sig .tc := ⟨.hbm, 100, rfl⟩
abbrev main_call9_v4 : Ref sig .tc := ⟨.hbm, 101, rfl⟩
abbrev main_v31 : Ref sig .tc := ⟨.hbm, 102, rfl⟩
abbrev main_call10_v0 : Ref sig .tc := ⟨.hbm, 103, rfl⟩
abbrev main_call10_v1 : Ref sig .tc := ⟨.hbm, 104, rfl⟩
abbrev main_call10_v2 : Ref sig .tc := ⟨.hbm, 105, rfl⟩
abbrev main_call10_v3 : Ref sig .tc := ⟨.hbm, 106, rfl⟩
abbrev main_call10_v4 : Ref sig .tc := ⟨.hbm, 107, rfl⟩
abbrev main_v32 : Ref sig .tc := ⟨.hbm, 108, rfl⟩
abbrev main_call11_call0_cst : Ref sig .tc := ⟨.hbm, 109, rfl⟩
abbrev main_call11_call0_v0 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_c_7 : Ref sig .tc := ⟨.hbm, 114, rfl⟩
abbrev main_c_8 : Ref sig .tc := ⟨.hbm, 115, rfl⟩
abbrev main_call12_v0 : Ref sig .tc := ⟨.hbm, 116, rfl⟩
abbrev main_call12_v1 : Ref sig .tc := ⟨.hbm, 117, rfl⟩
abbrev main_call12_v2 : Ref sig .tc := ⟨.hbm, 118, rfl⟩
abbrev main_call12_v3 : Ref sig .tc := ⟨.hbm, 119, rfl⟩
abbrev main_call12_v4 : Ref sig .tc := ⟨.hbm, 120, rfl⟩
abbrev main_v36 : Ref sig .tc := ⟨.hbm, 121, rfl⟩
abbrev main_call13_v0 : Ref sig .tc := ⟨.hbm, 122, rfl⟩
abbrev main_call13_v1 : Ref sig .tc := ⟨.hbm, 123, rfl⟩
abbrev main_call13_v2 : Ref sig .tc := ⟨.hbm, 124, rfl⟩
abbrev main_call13_v3 : Ref sig .tc := ⟨.hbm, 125, rfl⟩
abbrev main_call13_v4 : Ref sig .tc := ⟨.hbm, 126, rfl⟩
abbrev main_v37 : Ref sig .tc := ⟨.hbm, 127, rfl⟩
abbrev main_call14_call0_cst : Ref sig .tc := ⟨.hbm, 128, rfl⟩
abbrev main_call14_call0_v0 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_cst : Ref sig .tc := ⟨.hbm, 133, rfl⟩
abbrev main_v41 : Ref sig .tc := ⟨.hbm, 134, rfl⟩
abbrev main_cst_9 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_cst_10 : Ref sig .tc := ⟨.hbm, 141, rfl⟩
abbrev main_v47 : Ref sig .tc := ⟨.hbm, 142, rfl⟩
abbrev main_v48 : Ref sig .tc := ⟨.hbm, 143, rfl⟩
abbrev main_cst_11 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_cst_12 : Ref sig .tc := ⟨.hbm, 150, rfl⟩
abbrev main_v54 : Ref sig .tc := ⟨.hbm, 151, rfl⟩
abbrev main_v55 : Ref sig .tc := ⟨.hbm, 152, rfl⟩
abbrev main_cst_13 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_cst_14 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_cst_15 : Ref sig .tc := ⟨.hbm, 191, rfl⟩
abbrev main_v92 : Ref sig .tc := ⟨.hbm, 192, rfl⟩
abbrev main_v93 : Ref sig .tc := ⟨.hbm, 193, rfl⟩
abbrev main_cst_16 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_cst_17 : Ref sig .tc := ⟨.hbm, 200, rfl⟩
abbrev main_v99 : Ref sig .tc := ⟨.hbm, 201, rfl⟩
abbrev main_v100 : Ref sig .tc := ⟨.hbm, 202, rfl⟩
abbrev main_cst_18 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_cst_19 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_call15_cst : Ref sig .tc := ⟨.hbm, 221, rfl⟩
abbrev main_call15_v0 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_call16_cst : Ref sig .tc := ⟨.hbm, 229, rfl⟩
abbrev main_call16_v0 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_call17_cst : Ref sig .tc := ⟨.hbm, 237, rfl⟩
abbrev main_call17_v0 : Ref sig .tc := ⟨.hbm, 238, rfl⟩
abbrev main_v129 : Ref sig .tc := ⟨.hbm, 239, rfl⟩
abbrev main_call18_cst : Ref sig .tc := ⟨.hbm, 240, rfl⟩
abbrev main_call18_v0 : Ref sig .tc := ⟨.hbm, 241, rfl⟩
abbrev main_v130 : Ref sig .tc := ⟨.hbm, 242, rfl⟩
abbrev main_cst_20 : Ref sig .tc := ⟨.hbm, 243, rfl⟩
abbrev main_v131 : Ref sig .tc := ⟨.hbm, 244, rfl⟩
abbrev main_v132 : Ref sig .tc := ⟨.hbm, 245, rfl⟩
abbrev main_cst_21 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_cst_22 : Ref sig .tc := ⟨.hbm, 252, rfl⟩
abbrev main_v138 : Ref sig .tc := ⟨.hbm, 253, rfl⟩
abbrev main_v139 : Ref sig .tc := ⟨.hbm, 254, rfl⟩
abbrev main_cst_23 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_cst_24 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_cst_25 : Ref sig .tc := ⟨.hbm, 278, rfl⟩
abbrev main_v161 : Ref sig .tc := ⟨.hbm, 279, rfl⟩
abbrev main_cst_26 : Ref sig .tc := ⟨.hbm, 280, rfl⟩
abbrev main_v162 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_cst_27 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_c_28 : Ref sig .tc := ⟨.hbm, 296, rfl⟩
abbrev main_c_29 : Ref sig .tc := ⟨.hbm, 297, rfl⟩
abbrev main_call20_v0 : Ref sig .tc := ⟨.hbm, 298, rfl⟩
abbrev main_call20_v1 : Ref sig .tc := ⟨.hbm, 299, rfl⟩
abbrev main_call20_v2 : Ref sig .tc := ⟨.hbm, 300, rfl⟩
abbrev main_call20_v3 : Ref sig .tc := ⟨.hbm, 301, rfl⟩
abbrev main_call20_v4 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_c_30 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_cst_31 : Ref sig .tc := ⟨.hbm, 317, rfl⟩
abbrev main_v189 : Ref sig .tc := ⟨.hbm, 318, rfl⟩
abbrev main_v190 : Ref sig .tc := ⟨.hbm, 319, rfl⟩
abbrev main_c_32 : Ref sig .tc := ⟨.hbm, 320, rfl⟩
abbrev main_v191 : Ref sig .tc := ⟨.hbm, 321, rfl⟩
abbrev main_v192 : Ref sig .tc := ⟨.hbm, 322, rfl⟩
abbrev main_c_33 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩

abbrev nD : Nat := 1
abbrev τ : Topo := Topo.v7x

variable {F : FTy → Type} [FloatOps F]
-- ==== Proof.Spec.lean ====
/-
  THE MATHEMATICS. What the problem asks for, on the extended reals, one molecule of the batch at a time and with no
  tiling: pooled atom features, their layer norm, a thermometer code of element counts, one GRU cell, three rectified
  affine layers, a second layer norm and a linear score, a softmax over the atom subsets, and the histogram of peaks
  weighted by the softmax. Both programs are shown to compute these functions.
-/
module

public import Idealize.ShloMosaic.Lib.Pointwise

@[expose] public section

noncomputable section

namespace Cert.Spec

open Idealize.ShloMosaic

/-- The learned parameters, as functions of their coordinates. -/
structure Weights where
  lnG : Fin 256 → EReal
  lnB : Fin 256 → EReal
  wIh : Fin 768 → Fin 100 → EReal
  wHh : Fin 768 → Fin 256 → EReal
  bIh : Fin 768 → EReal
  bHh : Fin 768 → EReal
  l1W : Fin 512 → Fin 256 → EReal
  l1B : Fin 512 → EReal
  l2aW : Fin 512 → Fin 512 → EReal
  l2aB : Fin 512 → EReal
  l2bW : Fin 512 → Fin 512 → EReal
  l2bB : Fin 512 → EReal
  ln2G : Fin 512 → EReal
  ln2B : Fin 512 → EReal
  scoreW : Fin 512 → EReal
  scoreB : EReal

/-- One molecule: atom features, the atom mask, the one-hot element of each atom, the atom subsets, and for each subset
    its peaks' masses and intensities. -/
structure Molecule where
  feat : Fin 48 → Fin 256 → EReal
  mask : Fin 48 → EReal
  elem : Fin 48 → Fin 5 → EReal
  subs : Fin 128 → Fin 48 → EReal
  mass : Fin 128 → Fin 8 → EReal
  inten : Fin 128 → Fin 8 → EReal

/-- The small number under the layer norms' square roots (the f32 nearest 1e-5). -/
def eps : EReal := Ideal.ofBits .f32 0x3727C5AC#32

/-- The small number added to a subset's size (the f32 nearest 1e-4). -/
def sizeEps : EReal := Ideal.ofBits .f32 0x38D1B717#32

/-- The mean of `v` with divisor `N`. -/
def avg {n : ℕ} (N : EReal) (v : Fin n → EReal) : EReal := Ideal.div (∑ k, v k) N

/-- The mean square deviation of `v` from its mean, with divisor `N`. -/
def variance {n : ℕ} (N : EReal) (v : Fin n → EReal) : EReal :=
  avg N fun k => (v k - avg N v) * (v k - avg N v)

/-- Layer norm of `v` with gain `g` and offset `b`. -/
def layerNorm {n : ℕ} (N : EReal) (g b v : Fin n → EReal) (k : Fin n) : EReal :=
  Ideal.div (v k - avg N v) (Ideal.sqrt (variance N v + eps)) * g k + b k

/-- An affine layer: the weight's row against `v`, plus the bias. -/
def affine {m n : ℕ} (w : Fin m → Fin n → EReal) (b : Fin m → EReal) (v : Fin n → EReal) (j : Fin m) : EReal :=
  (∑ k, v k * w j k) + b j

/-- An affine layer and the positive part of what it gives. -/
def reluLayer {m n : ℕ} (w : Fin m → Fin n → EReal) (b : Fin m → EReal) (v : Fin n → EReal) (j : Fin m) : EReal :=
  max (affine w b v j) 0

/-- Subset `s`'s mean atom feature: masked features summed over the masked subset, over the subset's masked size. -/
def pooled (D : Molecule) (s : Fin 128) (g : Fin 256) : EReal :=
  Ideal.div (∑ a, D.subs s a * D.mask a * (D.feat a g * D.mask a)) ((∑ a, D.subs s a * D.mask a) + sizeEps)

/-- The state the GRU cell starts from: the layer norm of the mean feature. -/
def state (W : Weights) (D : Molecule) (s : Fin 128) : Fin 256 → EReal :=
  layerNorm ((256 : ℝ) : EReal) W.lnG W.lnB (pooled D s)

/-- How many atoms of element `k` subset `s` holds. -/
def count (D : Molecule) (s : Fin 128) (k : Fin 5) : EReal := ∑ a, D.subs s a * D.elem a k

/-- The thermometer code: of element `f / 20`, one at the positions `f % 20` from the count (clipped to 0 … 19) on. -/
def formula (D : Molecule) (s : Fin 128) (f : Fin 100) : EReal :=
  if min ((19 : ℝ) : EReal) (max 0 (count D s ⟨f.val / 20, by omega⟩)) ≤ (((f.val % 20 : ℕ) : ℝ) : EReal) then 1 else 0

/-- One GRU cell: from the input's gates `gi`, the state's gates `gh` (reset, update, new: 256 each) and the state. -/
def gru (gi gh : Fin 768 → EReal) (h : Fin 256 → EReal) (g : Fin 256) : EReal :=
  (1 - Ideal.logistic (gi ⟨256 + g.val, by omega⟩ + gh ⟨256 + g.val, by omega⟩))
      * Ideal.tanh (gi ⟨512 + g.val, by omega⟩
          + Ideal.logistic (gi ⟨g.val, by omega⟩ + gh ⟨g.val, by omega⟩) * gh ⟨512 + g.val, by omega⟩)
    + Ideal.logistic (gi ⟨256 + g.val, by omega⟩ + gh ⟨256 + g.val, by omega⟩) * h g

/-- The cell's result for subset `s`. -/
def cell (W : Weights) (D : Molecule) (s : Fin 128) : Fin 256 → EReal :=
  gru (affine W.wIh W.bIh (formula D s)) (affine W.wHh W.bHh (state W D s)) (state W D s)

/-- The three rectified layers over the cell's result. -/
def hidden (W : Weights) (D : Molecule) (s : Fin 128) : Fin 512 → EReal :=
  reluLayer W.l2bW W.l2bB (reluLayer W.l2aW W.l2aB (reluLayer W.l1W W.l1B (cell W D s)))

/-- Subset `s`'s score. -/
def score (W : Weights) (D : Molecule) (s : Fin 128) : EReal :=
  (∑ k, layerNorm ((512 : ℝ) : EReal) W.ln2G W.ln2B (hidden W D s) k * W.scoreW k) + W.scoreB

/-- The softmax of `v` at `s`, the greatest element subtracted first. -/
def softmax {n : ℕ} (v : Fin n → EReal) (s : Fin n) : EReal :=
  Ideal.div (Ideal.exp (v s - Finset.univ.fold max ⊥ v))
    (∑ k, Ideal.exp (v k - Finset.univ.fold max ⊥ v))

/-- Subset `s`'s probability. -/
def prob (W : Weights) (D : Molecule) (s : Fin 128) : EReal := softmax (score W D) s

/-- The bin of a mass: the nearest integer (ties to even), clipped to 0 … 511. -/
def bin (x : EReal) : EReal := min ((511 : ℝ) : EReal) (max 0 (Ideal.liftRound Ideal.roundHalfEven x))

/-- The spectrum at bin `l`: every peak whose mass falls there, its intensity times its subset's probability. -/
def spectrum (W : Weights) (D : Molecule) (l : Fin 512) : EReal :=
  ∑ s, ∑ p, if bin (D.mass s p) = ((l.val : ℝ) : EReal) then D.inten s p * prob W D s else 0

end Cert.Spec

end
-- ==== Proof.Arith.lean ====
/-
  ARITHMETIC ON THE EXTENDED REALS that the two programs' readings need: the constants, a product with a reciprocal
  square root as a quotient by a square root, sums of indicator terms, and clipped conversions.
-/
module

public import proofs.«01_k».proof.Proof.Spec

@[expose] public section

noncomputable section

namespace Cert.Spec

open Idealize.ShloMosaic

/-- A signed integer as a number. -/
theorem sitofp_eq {w : ℕ} (b : BitVec w) : FloatOps.sitofp (F := Ideal) .f32 b = ((b.toInt : ℝ) : EReal) := rfl

/-- An unsigned integer as a number. -/
theorem uitofp_eq {w : ℕ} (b : BitVec w) : FloatOps.uitofp (F := Ideal) .f32 b = ((b.toNat : ℝ) : EReal) := rfl

/-- The word that both programs write for 256. -/
theorem const_256 : Ideal.ofBits .f32 0x43800000#32 = ((256 : ℝ) : EReal) := by
  simp [Ideal.ofBits, Ideal.ieee]
  rw [← EReal.coe_mul]; norm_num

/-- The word for 512. -/
theorem const_512 : Ideal.ofBits .f32 0x44000000#32 = ((512 : ℝ) : EReal) := by
  simp [Ideal.ofBits, Ideal.ieee]
  rw [← EReal.coe_mul]; norm_num

/-- The word for 19, the largest count the code tells apart. -/
theorem const_19 : Ideal.ofBits .f32 0x41980000#32 = ((19 : ℝ) : EReal) := by
  simp [Ideal.ofBits, Ideal.ieee]
  rw [← EReal.coe_mul]; norm_num

/-- The word for 511, the last bin. -/
theorem const_511 : Ideal.ofBits .f32 0x43FF8000#32 = ((511 : ℝ) : EReal) := by
  simp [Ideal.ofBits, Ideal.ieee]
  rw [← EReal.coe_mul]; norm_num

/-- The word for one. -/
theorem const_one : Ideal.ofBits .f32 0x3F800000#32 = 1 := by
  simp [Ideal.ofBits, Ideal.ieee]
  rw [← EReal.coe_mul]; norm_num

/-- The word for minus infinity, where a maximum starts. -/
theorem const_bot : Ideal.ofBits .f32 0xFF800000#32 = ⊥ := by
  simp [Ideal.ofBits, Ideal.ieee]

/-- The small number a layer norm adds to a variance is positive. -/
theorem eps_pos : 0 < eps := by
  unfold eps
  simp [Ideal.ofBits, Ideal.ieee]
  rw [← EReal.coe_mul, ← EReal.coe_zero, EReal.coe_lt_coe_iff]; norm_num

/-- A square is not negative, at the infinities too. -/
theorem mul_self_nonneg' (x : EReal) : 0 ≤ x * x := by
  rcases le_total 0 x with h | h
  · exact mul_nonneg h h
  · rw [← neg_mul_neg]
    have : 0 ≤ -x := EReal.neg_nonneg.mpr h
    exact mul_nonneg this this

/-- A mean of squares with a positive real divisor is not negative. -/
theorem variance_nonneg {n : ℕ} {N : ℝ} (hN : 0 < N) (v : Fin n → EReal) : 0 ≤ variance (N : EReal) v := by
  unfold variance avg
  rw [Ideal.div_coe hN.ne']
  refine mul_nonneg (Finset.sum_nonneg fun k _ => mul_self_nonneg' _) ?_
  exact_mod_cast (one_div_pos.mpr hN).le

/-- So what the layer norm takes the root of is positive. -/
theorem variance_eps_pos {n : ℕ} {N : ℝ} (hN : 0 < N) (v : Fin n → EReal) : 0 < variance (N : EReal) v + eps :=
  lt_of_lt_of_le eps_pos (le_add_of_nonneg_left (variance_nonneg hN v))

/-- Of a positive number, a product with the reciprocal square root is the quotient by the square root. -/
theorem mul_rsqrt {v : EReal} (h : 0 < v) (a : EReal) : a * Ideal.rsqrt v = Ideal.div a (Ideal.sqrt v) := by
  induction v using EReal.rec with
  | bot => simp at h
  | top => simp [Ideal.div]
  | coe r =>
    have hr : 0 < r := by exact_mod_cast h
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A layer norm whose quotient is written as a product with the reciprocal square root. -/
theorem layerNorm_rsqrt {n : ℕ} {N : ℝ} (hN : 0 < N) (g b v : Fin n → EReal) (k : Fin n) :
    (v k - avg (N : EReal) v) * Ideal.rsqrt (variance (N : EReal) v + eps) * g k + b k = layerNorm (N : EReal) g b v k := by
  rw [mul_rsqrt (variance_eps_pos hN v)]; rfl

/-- A sum against the indicator of one index is the term there. -/
theorem sum_mul_indicator {n : ℕ} (v : Fin n → EReal) (i : Fin n) :
    ∑ k, v k * (if i = k then (1 : EReal) else 0) = v i := by
  simp only [mul_ite, mul_one, mul_zero, Finset.sum_ite_eq, Finset.mem_univ, if_true]

end Cert.Spec

end
-- ==== Proof.Block.lean ====
/-
  WHAT ONE GRID POINT COMPUTES. The kernel's body, read index by index on the extended reals, is the mathematics of
  `Spec` for the molecule and the parameters its blocks hold.
-/
module

public import proofs.«01_k».proof.Proof.Arith
public import proofs.«01_k».proof.Proof.Gen.KernelIdeal.Frame

@[expose] public section

set_option maxRecDepth 16384

noncomputable section

namespace Cert.KernelIdeal.Block

open Cert.KernelIdeal Cert.KernelIdeal.Gen Idealize.ShloMosaic
open Cert.Spec (Molecule Weights)

/-- The molecule six blocks hold. -/
def mol (x0 : Vec Ideal S1x48x256 .f32) (x1 : Vec Ideal S1x1x48 .f32) (x2 : Vec Ideal S1x48x5 .f32)
    (x3 : Vec Ideal S1x128x48 .f32) (x4 x5 : Vec Ideal S1x128x8 .f32) : Molecule where
  feat a g := x0 (ix3 0 a g)
  mask a := x1 (ix3 0 0 a)
  elem a k := x2 (ix3 0 a k)
  subs s a := x3 (ix3 0 s a)
  mass s p := x4 (ix3 0 s p)
  inten s p := x5 (ix3 0 s p)

/-- The parameters sixteen blocks hold. -/
def wts (x6 x7 : Vec Ideal S1x256 .f32) (x8 : Vec Ideal S768x100 .f32) (x9 : Vec Ideal S768x256 .f32)
    (x10 x11 : Vec Ideal S1x768 .f32) (x12 : Vec Ideal S512x256 .f32) (x13 : Vec Ideal S1x512 .f32)
    (x14 : Vec Ideal S512x512 .f32) (x15 : Vec Ideal S1x512 .f32) (x16 : Vec Ideal S512x512 .f32)
    (x17 x18 x19 x20 : Vec Ideal S1x512 .f32) (x21 : Vec Ideal S1x1 .f32) : Weights where
  lnG k := x6 (ix2 0 k)
  lnB k := x7 (ix2 0 k)
  wIh j k := x8 (ix2 j k)
  wHh j k := x9 (ix2 j k)
  bIh j := x10 (ix2 0 j)
  bHh j := x11 (ix2 0 j)
  l1W j k := x12 (ix2 j k)
  l1B j := x13 (ix2 0 j)
  l2aW j k := x14 (ix2 j k)
  l2aB j := x15 (ix2 0 j)
  l2bW j k := x16 (ix2 j k)
  l2bB j := x17 (ix2 0 j)
  ln2G k := x18 (ix2 0 k)
  ln2B k := x19 (ix2 0 k)
  scoreW k := x20 (ix2 0 k)
  scoreB := x21 (ix2 0 0)

section Stages

variable (x0 : Vec Ideal S1x48x256 .f32) (x1 : Vec Ideal S1x1x48 .f32) (x2 : Vec Ideal S1x48x5 .f32)
  (x3 : Vec Ideal S1x128x48 .f32) (x4 x5 : Vec Ideal S1x128x8 .f32)

/-- The mean feature of each subset. -/
theorem pooled_at (s : Fin 128) (g : Fin 256) :
    k0_pay3 (F := Ideal) x0 x1 x3 (ix2 s g) = Spec.pooled (mol x0 x1 x2 x3 x4 x5) s g := by
  pointwise [k0_pay3, k0_pay2]
  rfl

/-- The layer norm of the mean feature. -/
theorem state_at (x6 x7 : Vec Ideal S1x256 .f32) (s : Fin 128) (g : Fin 256) :
    k0_pay9 (F := Ideal) (k0_pay4 x6) (k0_pay5 x7) (k0_pay7 x0 x1 x3) (k0_pay8 x0 x1 x3) (ix2 s g)
      = Spec.layerNorm ((256 : ℝ) : EReal) (fun k => x6 (ix2 0 k)) (fun k => x7 (ix2 0 k))
          (Spec.pooled (mol x0 x1 x2 x3 x4 x5) s) g := by
  pointwise [k0_pay9, k0_pay4, k0_pay5, k0_pay7, k0_pay8, k0_pay6]
  simp only [pooled_at x0 x1 x2 x3 x4 x5, Spec.const_256]
  exact Spec.layerNorm_rsqrt (N := 256) (by norm_num) (fun k => x6 (ix2 0 k)) (fun k => x7 (ix2 0 k))
    (Spec.pooled (mol x0 x1 x2 x3 x4 x5) s) g

/-- The word that tells whether position `f` of the code belongs to element `k`. -/
theorem segment_word : ∀ (f : Fin 100) (k : Fin 5),
    (BitVec.setWidth 32
      (IntOp.cmpi CmpIPredicate.eq
        (Scalar.select
          (IntOp.andi
            (IntOp.cmpi CmpIPredicate.ne
              (IntOp.subi (BitVec.setWidth 32 (IntOp.cmpi CmpIPredicate.sgt (BitVec.ofNat 32 f.val) 0#32))
                (BitVec.setWidth 32 (IntOp.cmpi CmpIPredicate.slt (BitVec.ofNat 32 f.val) 0#32)))
              (Scalar.subi (Scalar.extui (Scalar.cmpi CmpIPredicate.sgt 20#32 0#32))
                (Scalar.extui (Scalar.cmpi CmpIPredicate.slt 20#32 0#32))))
            (IntOp.cmpi CmpIPredicate.ne (IntOp.remsi ArithUnit.vector (BitVec.ofNat 32 f.val) 20#32) 0#32))
          (IntOp.subi (IntOp.divsi ArithUnit.vector (BitVec.ofNat 32 f.val) 20#32) 1#32)
          (IntOp.divsi ArithUnit.vector (BitVec.ofNat 32 f.val) 20#32))
        (BitVec.ofNat 32 k.val)) : BitVec 32).toInt = if (⟨f.val / 20, by omega⟩ : Fin 5) = k then 1 else 0 := by
  decide +kernel

/-- The clipped count that position `f` of the code is compared with. -/
theorem threshold_at (s : Fin 128) (f : Fin 100) :
    k0_pay10 (F := Ideal) (k0_pay2 x3) x2 (ix2 s f)
      = min ((19 : ℝ) : EReal) (max 0 (Spec.count (mol x0 x1 x2 x3 x4 x5) s ⟨f.val / 20, by omega⟩)) := by
  pointwise [k0_pay10, k0_pay2]
  simp only [Spec.sitofp_eq, segment_word, Spec.const_19, Int.cast_ite, Int.cast_one, Int.cast_zero,
    apply_ite Real.toEReal, EReal.coe_one, EReal.coe_zero, Spec.sum_mul_indicator]
  rfl

/-- The word of position `f % 20` of the code. -/
theorem position_word : ∀ f : Fin 100,
    (Scalar.select
      (IntOp.andi
        (IntOp.xori
          (IntOp.cmpi CmpIPredicate.slt
            (IntOp.remsi ArithUnit.vector (BitVec.ofNat 32 f.val)
              (Scalar.select (Scalar.cmpi CmpIPredicate.eq 20#32 0#32) 1#32 20#32))
            0#32)
          (Scalar.cmpi CmpIPredicate.slt
            (Scalar.select (Scalar.cmpi CmpIPredicate.eq 20#32 0#32) 1#32 20#32) 0#32))
        (IntOp.cmpi CmpIPredicate.ne
          (IntOp.remsi ArithUnit.vector (BitVec.ofNat 32 f.val)
            (Scalar.select (Scalar.cmpi CmpIPredicate.eq 20#32 0#32) 1#32 20#32))
          0#32))
      (IntOp.addi
        (IntOp.remsi ArithUnit.vector (BitVec.ofNat 32 f.val)
          (Scalar.select (Scalar.cmpi CmpIPredicate.eq 20#32 0#32) 1#32 20#32))
        (Scalar.select (Scalar.cmpi CmpIPredicate.eq 20#32 0#32) 1#32 20#32))
      (IntOp.remsi ArithUnit.vector (BitVec.ofNat 32 f.val)
        (Scalar.select (Scalar.cmpi CmpIPredicate.eq 20#32 0#32) 1#32 20#32)) : BitVec 32).toInt = ((f.val % 20 : ℕ) : ℤ) := by
  decide +kernel

/-- A comparison's bit, widened and read as a number. -/
theorem indicator (p : Prop) [Decidable p] :
    (((BitVec.setWidth 32 (BitVec.ofBool (decide p)) : BitVec 32).toInt : ℝ) : EReal) = if p then 1 else 0 := by
  by_cases h : p <;> simp [h]

/-- The gates from the thermometer code. -/
theorem inputGates_at (v : FVec Ideal S128x100 .f32) (x8 : Vec Ideal S768x100 .f32) (x10 : Vec Ideal S1x768 .f32)
    (s : Fin 128) (j : Fin 768) :
    k0_pay11 (F := Ideal) v (iota .tc S128x100 32 [1] iota_S128x100_d1_w32) 20#32 0#32 x8 x10 (ix2 s j)
      = Spec.affine (fun j k => x8 (ix2 j k)) (fun j => x10 (ix2 0 j))
          (fun f => if v (ix2 s f) ≤ (((f.val % 20 : ℕ) : ℝ) : EReal) then 1 else 0) j := by
  pointwise [k0_pay11]
  simp only [Spec.sitofp_eq, position_word, indicator, Int.cast_natCast]
  rfl

/-- The gates from the state. -/
theorem stateGates_at (v : FVec Ideal S128x256 .f32) (x9 : Vec Ideal S768x256 .f32) (x11 : Vec Ideal S1x768 .f32)
    (s : Fin 128) (j : Fin 768) :
    k0_pay12 (F := Ideal) v x9 x11 (ix2 s j)
      = Spec.affine (fun j k => x9 (ix2 j k)) (fun j => x11 (ix2 0 j)) (fun k => v (ix2 s k)) j := by
  pointwise [k0_pay12]
  rfl

/-- The update gate. -/
theorem update_at (h : FVec Ideal S128x256 .f32) (v : FVec Ideal S128x100 .f32) (x8 : Vec Ideal S768x100 .f32)
    (x9 : Vec Ideal S768x256 .f32) (x10 x11 : Vec Ideal S1x768 .f32) (s : Fin 128) (g : Fin 256) :
    k0_pay13 (F := Ideal) h v (iota .tc S128x100 32 [1] iota_S128x100_d1_w32) 20#32 0#32 x8 x10 x9 x11 (ix2 s g)
      = Ideal.logistic
          (k0_pay11 (F := Ideal) v (iota .tc S128x100 32 [1] iota_S128x100_d1_w32) 20#32 0#32 x8 x10
              (ix2 s ⟨256 + g.val, by omega⟩)
            + k0_pay12 (F := Ideal) h x9 x11 (ix2 s ⟨256 + g.val, by omega⟩)) := by
  pointwise [k0_pay13]

/-- The new state the cell mixes in. -/
theorem fresh_at (h : FVec Ideal S128x256 .f32) (v : FVec Ideal S128x100 .f32) (x8 : Vec Ideal S768x100 .f32)
    (x9 : Vec Ideal S768x256 .f32) (x10 x11 : Vec Ideal S1x768 .f32) (s : Fin 128) (g : Fin 256) :
    k0_pay14 (F := Ideal) h v (iota .tc S128x100 32 [1] iota_S128x100_d1_w32) 20#32 0#32 x8 x10 x9 x11 (ix2 s g)
      = Ideal.tanh
          (k0_pay11 (F := Ideal) v (iota .tc S128x100 32 [1] iota_S128x100_d1_w32) 20#32 0#32 x8 x10
              (ix2 s ⟨512 + g.val, by omega⟩)
            + Ideal.logistic
                (k0_pay11 (F := Ideal) v (iota .tc S128x100 32 [1] iota_S128x100_d1_w32) 20#32 0#32 x8 x10
                    (ix2 s ⟨g.val, by omega⟩)
                  + k0_pay12 (F := Ideal) h x9 x11 (ix2 s ⟨g.val, by omega⟩))
              * k0_pay12 (F := Ideal) h x9 x11 (ix2 s ⟨512 + g.val, by omega⟩)) := by
  pointwise [k0_pay14]

/-- The three rectified layers over the mixed state. -/
theorem hidden_at (h z n : FVec Ideal S128x256 .f32) (x12 : Vec Ideal S512x256 .f32) (x13 : Vec Ideal S1x512 .f32)
    (x14 : Vec Ideal S512x512 .f32) (x15 : Vec Ideal S1x512 .f32) (x16 : Vec Ideal S512x512 .f32)
    (x17 : Vec Ideal S1x512 .f32) (s : Fin 128) (j : Fin 512) :
    k0_pay15 (F := Ideal) h z n (Scalar.ofBits .f32 0x3F800000#32) x12 x13 x14 x15 x16 x17 (ix2 s j)
      = Spec.reluLayer (fun j k => x16 (ix2 j k)) (fun j => x17 (ix2 0 j))
          (Spec.reluLayer (fun j k => x14 (ix2 j k)) (fun j => x15 (ix2 0 j))
            (Spec.reluLayer (fun j k => x12 (ix2 j k)) (fun j => x13 (ix2 0 j))
              fun g => (1 - z (ix2 s g)) * n (ix2 s g) + z (ix2 s g) * h (ix2 s g))) j := by
  pointwise [k0_pay15]
  rfl

/-- The softmax over the subsets of the scores. -/
theorem prob_at (v : FVec Ideal S128x512 .f32) (x18 x19 x20 : Vec Ideal S1x512 .f32) (x21 : Vec Ideal S1x1 .f32)
    (r : FVec Ideal S128x1 .f32) (hr : ∀ s, r (ix2 s (0 : Fin 1)) = ∑ k, v (ix2 s k)) (s : Fin 128) :
    k0_pay20 (F := Ideal) v (k0_pay16 x18) (k0_pay17 x19) r k0_pay19 x20 x21 (ix2 s (0 : Fin 1))
      = Spec.softmax (fun s => (∑ k, Spec.layerNorm ((512 : ℝ) : EReal) (fun k => x18 (ix2 0 k)) (fun k => x19 (ix2 0 k))
          (fun k => v (ix2 s k)) k * x20 (ix2 0 k)) + x21 (ix2 0 0)) s := by
  pointwise [k0_pay20, k0_pay16, k0_pay17, k0_pay19]
  simp only [hr, Spec.const_512, Spec.const_bot]
  have e (s : Fin 128) (k : Fin 512) := Spec.layerNorm_rsqrt (N := 512) (by norm_num) (fun k => x18 (ix2 0 k))
    (fun k => x19 (ix2 0 k)) (fun k => v (ix2 s k)) k
  unfold Spec.variance Spec.avg Spec.eps at e
  simp only [e]
  rfl

/-- The number of a bin. -/
theorem bin_word (l : Fin 512) : (((BitVec.ofNat 32 l.val).toInt : ℝ) : EReal) = ((l.val : ℝ) : EReal) := by
  have h : ∀ l : Fin 512, (BitVec.ofNat 32 l.val).toInt = (l.val : ℤ) := by decide +kernel
  rw [h, Int.cast_natCast]

/-- The histogram of the peaks, each weighted by its subset's probability. -/
theorem spectrum_at (q : FVec Ideal S128x1 .f32) (l : Fin 512) :
    k0_pay1 (F := Ideal) (k0_pay23 (k0_pay22 x4)) (k0_pay24 q x5) k0_pay25 (k0_pay26 q (k0_pay22 x4) x5)
        (k0_pay27 (k0_pay22 x4)) (k0_pay28 q x5) (ix3 0 0 l)
      = ∑ s, ∑ p : Fin 8, if Spec.bin (x4 (ix3 0 s p)) = ((l.val : ℝ) : EReal) then x5 (ix3 0 s p) * q (ix2 s 0) else 0 := by
  pointwise [k0_pay1, k0_pay23, k0_pay22, k0_pay24, k0_pay25, k0_pay26, k0_pay27, k0_pay28]
  simp only [Spec.sitofp_eq, bin_word, indicator, Spec.const_511, mul_ite, mul_one, mul_zero]
  refine Finset.sum_congr rfl fun s _ => ?_
  rw [Fin.sum_univ_eight]
  rfl

end Stages

/-- A window of two axes that starts at zero on each starts at the array's beginning. -/
theorem zero2 : (![0, 0] : Fin 2 → ℕ) = fun _ => 0 := funext fun a => by fin_cases a <;> rfl

/-- The same for three axes. -/
theorem zero3 : (![0, 0, 0] : Fin 3 → ℕ) = fun _ => 0 := funext fun a => by fin_cases a <;> rfl

section Body

variable (x0 : Vec Ideal S1x48x256 .f32) (x1 : Vec Ideal S1x1x48 .f32) (x2 : Vec Ideal S1x48x5 .f32)
  (x3 : Vec Ideal S1x128x48 .f32) (x4 x5 : Vec Ideal S1x128x8 .f32)
  (x6 x7 : Vec Ideal S1x256 .f32) (x8 : Vec Ideal S768x100 .f32) (x9 : Vec Ideal S768x256 .f32)
  (x10 x11 : Vec Ideal S1x768 .f32) (x12 : Vec Ideal S512x256 .f32) (x13 : Vec Ideal S1x512 .f32)
  (x14 : Vec Ideal S512x512 .f32) (x15 : Vec Ideal S1x512 .f32) (x16 : Vec Ideal S512x512 .f32)
  (x17 x18 x19 x20 : Vec Ideal S1x512 .f32) (x21 : Vec Ideal S1x1 .f32)

/-- The state the body names. -/
theorem body_state (s : Fin 128) (g : Fin 256) :
    k0_pay30 (F := Ideal) x0 x1 x2 x3 x4 x5 x6 x7 x8 x9 x10 x11 x12 x13 x14 x15 x16 x17 x18 x19 x20 x21 (ix2 s g)
      = Spec.state (wts x6 x7 x8 x9 x10 x11 x12 x13 x14 x15 x16 x17 x18 x19 x20 x21) (mol x0 x1 x2 x3 x4 x5) s g := by
  unfold k0_pay30
  simp only [View.ld_unit_zero (S := S1x48x256) zero3, View.ld_unit_zero (S := S1x1x48) zero3,
    View.ld_unit_zero (S := S1x128x48) zero3, View.ld_unit_zero (S := S1x256) zero2]
  exact state_at x0 x1 x2 x3 x4 x5 x6 x7 s g

/-- The clipped counts the body names. -/
theorem body_threshold (s : Fin 128) (f : Fin 100) :
    k0_pay31 (F := Ideal) x0 x1 x2 x3 x4 x5 x6 x7 x8 x9 x10 x11 x12 x13 x14 x15 x16 x17 x18 x19 x20 x21 (ix2 s f)
      = min ((19 : ℝ) : EReal) (max 0 (Spec.count (mol x0 x1 x2 x3 x4 x5) s ⟨f.val / 20, by omega⟩)) := by
  unfold k0_pay31
  simp only [View.ld_unit_zero (S := S1x48x5) zero3, View.ld_unit_zero (S := S1x128x48) zero3]
  exact threshold_at x0 x1 x2 x3 x4 x5 s f

/-- The gates from the thermometer code. -/
theorem body_inputGates (s : Fin 128) (j : Fin 768) :
    k0_pay11 (F := Ideal) (k0_pay31 x0 x1 x2 x3 x4 x5 x6 x7 x8 x9 x10 x11 x12 x13 x14 x15 x16 x17 x18 x19 x20 x21) (iota .tc S128x100 32 [1] iota_S128x100_d1_w32) 20#32 0#32 x8 x10 (ix2 s j)
      = Spec.affine (wts x6 x7 x8 x9 x10 x11 x12 x13 x14 x15 x16 x17 x18 x19 x20 x21).wIh (wts x6 x7 x8 x9 x10 x11 x12 x13 x14 x15 x16 x17 x18 x19 x20 x21).bIh (Spec.formula (mol x0 x1 x2 x3 x4 x5) s) j := by
  rw [inputGates_at]
  simp only [body_threshold]
  rfl

/-- The gates from the state. -/
theorem body_stateGates (s : Fin 128) (j : Fin 768) :
    k0_pay12 (F := Ideal) (k0_pay30 x0 x1 x2 x3 x4 x5 x6 x7 x8 x9 x10 x11 x12 x13 x14 x15 x16 x17 x18 x19 x20 x21) x9 x11 (ix2 s j)
      = Spec.affine (wts x6 x7 x8 x9 x10 x11 x12 x13 x14 x15 x16 x17 x18 x19 x20 x21).wHh (wts x6 x7 x8 x9 x10 x11 x12 x13 x14 x15 x16 x17 x18 x19 x20 x21).bHh (Spec.state (wts x6 x7 x8 x9 x10 x11 x12 x13 x14 x15 x16 x17 x18 x19 x20 x21) (mol x0 x1 x2 x3 x4 x5) s) j := by
  rw [stateGates_at]
  simp only [body_state]
  rfl

/-- The three layers' result. -/
theorem body_hidden (s : Fin 128) (j : Fin 512) :
    k0_pay34 (F := Ideal) x0 x1 x2 x3 x4 x5 x6 x7 x8 x9 x10 x11 x12 x13 x14 x15 x16 x17 x18 x19 x20 x21 (ix2 s j)
      = Spec.hidden (wts x6 x7 x8 x9 x10 x11 x12 x13 x14 x15 x16 x17 x18 x19 x20 x21) (mol x0 x1 x2 x3 x4 x5) s j := by
  unfold k0_pay34 k0_pay33 k0_pay32 k0_pay29
  simp only [View.ld_unit_zero (S := S768x100) zero2, View.ld_unit_zero (S := S1x768) zero2,
    View.ld_unit_zero (S := S768x256) zero2, View.ld_unit_zero (S := S512x256) zero2,
    View.ld_unit_zero (S := S1x512) zero2, View.ld_unit_zero (S := S512x512) zero2]
  rw [hidden_at]
  refine congrFun (congrArg (fun v => Spec.reluLayer (fun j k => x16 (ix2 j k)) (fun j => x17 (ix2 0 j))
    (Spec.reluLayer (fun j k => x14 (ix2 j k)) (fun j => x15 (ix2 0 j))
      (Spec.reluLayer (fun j k => x12 (ix2 j k)) (fun j => x13 (ix2 0 j)) v))) (funext fun g => ?_)) j
  rw [update_at, fresh_at]
  rw [body_inputGates, body_inputGates, body_inputGates, body_stateGates, body_stateGates, body_stateGates, body_state]
  rfl

/-- Its row sums. -/
theorem body_rowSum (s : Fin 128) :
    k0_pay37 (F := Ideal) x0 x1 x2 x3 x4 x5 x6 x7 x8 x9 x10 x11 x12 x13 x14 x15 x16 x17 x18 x19 x20 x21 (ix2 s (0 : Fin 1))
      = ∑ k, k0_pay34 (F := Ideal) x0 x1 x2 x3 x4 x5 x6 x7 x8 x9 x10 x11 x12 x13 x14 x15 x16 x17 x18 x19 x20 x21 (ix2 s k) := by
  unfold k0_pay37 k0_pay18 k0_pay34
  pointwise

/-- The probabilities. -/
theorem body_prob (s : Fin 128) :
    k0_pay39 (F := Ideal) x0 x1 x2 x3 x4 x5 x6 x7 x8 x9 x10 x11 x12 x13 x14 x15 x16 x17 x18 x19 x20 x21 (ix2 s (0 : Fin 1))
      = Spec.prob (wts x6 x7 x8 x9 x10 x11 x12 x13 x14 x15 x16 x17 x18 x19 x20 x21) (mol x0 x1 x2 x3 x4 x5) s := by
  unfold k0_pay39 k0_pay38 k0_pay36 k0_pay35
  simp only [View.ld_unit_zero (S := S1x512) zero2, View.ld_unit_zero (S := S1x1) zero2]
  rw [prob_at _ _ _ _ _ _ (body_rowSum x0 x1 x2 x3 x4 x5 x6 x7 x8 x9 x10 x11 x12 x13 x14 x15 x16 x17 x18 x19 x20 x21)]
  simp only [body_hidden]
  rfl

/-- What the body leaves for the probabilities' window. -/
theorem out_prob (s : Fin 128) :
    out0_23 (F := Ideal) x0 x1 x2 x3 x4 x5 x6 x7 x8 x9 x10 x11 x12 x13 x14 x15 x16 x17 x18 x19 x20 x21 (ix3 0 s 0) = Spec.prob (wts x6 x7 x8 x9 x10 x11 x12 x13 x14 x15 x16 x17 x18 x19 x20 x21) (mol x0 x1 x2 x3 x4 x5) s := by
  unfold out0_23
  rw [View.canon_unit_zero zero3, ← body_prob]
  unfold k0_pay21 k0_pay39
  pointwise

/-- What the body leaves for the spectrum's window. -/
theorem out_spectrum (l : Fin 512) :
    out0_22 (F := Ideal) x0 x1 x2 x3 x4 x5 x6 x7 x8 x9 x10 x11 x12 x13 x14 x15 x16 x17 x18 x19 x20 x21 (ix3 0 0 l) = Spec.spectrum (wts x6 x7 x8 x9 x10 x11 x12 x13 x14 x15 x16 x17 x18 x19 x20 x21) (mol x0 x1 x2 x3 x4 x5) l := by
  unfold out0_22 k0_pay40
  rw [View.canon_unit_zero zero3]
  simp only [View.ld_unit_zero (S := S1x128x8) zero3]
  rw [spectrum_at]
  simp only [body_prob]
  rfl

end Body

end Cert.KernelIdeal.Block

end
-- ==== Proof.Inputs.lean ====
/-
  THE ARGUMENTS AS A PROBLEM. Both programs take the same arrays; here they are read as sixteen molecules of `Spec` and
  one set of parameters.
-/
module

public import proofs.«01_k».proof.Proof.Arith
public import Idealize.ShloMosaic.Lib.Pointwise

@[expose] public section

noncomputable section

namespace Cert.Spec

open Idealize.ShloMosaic

/-- Molecule `b` of a batch: the features of an atom are its 64 × 4 table read row by row, and the peaks of a subset are
    pairs of a mass and an intensity. -/
def molecule (feat : Vec Ideal ⟨4, ![16, 48, 64, 4]⟩ .f32) (mask : Vec Ideal ⟨2, ![16, 48]⟩ .f32)
    (elem : Vec Ideal ⟨3, ![16, 48, 5]⟩ .i32) (subs : Vec Ideal ⟨3, ![16, 128, 48]⟩ .i32)
    (peaks : Vec Ideal ⟨4, ![16, 128, 8, 2]⟩ .f32) (b : Fin 16) : Molecule where
  feat a g := feat (ix4 b a ⟨g.val / 4, by omega⟩ ⟨g.val % 4, by omega⟩)
  mask a := mask (ix2 b a)
  elem a k := (((elem (ix3 b a k)).toInt : ℝ) : EReal)
  subs s a := (((subs (ix3 b s a)).toInt : ℝ) : EReal)
  mass s p := peaks (ix4 b s p 0)
  inten s p := peaks (ix4 b s p 1)

/-- The parameters. -/
def weights (lnG lnB : Vec Ideal ⟨1, ![256]⟩ .f32) (wIh : Vec Ideal ⟨2, ![768, 100]⟩ .f32)
    (wHh : Vec Ideal ⟨2, ![768, 256]⟩ .f32) (bIh bHh : Vec Ideal ⟨1, ![768]⟩ .f32)
    (l1W : Vec Ideal ⟨2, ![512, 256]⟩ .f32) (l1B : Vec Ideal ⟨1, ![512]⟩ .f32)
    (l2aW : Vec Ideal ⟨2, ![512, 512]⟩ .f32) (l2aB : Vec Ideal ⟨1, ![512]⟩ .f32)
    (l2bW : Vec Ideal ⟨2, ![512, 512]⟩ .f32) (l2bB ln2G ln2B : Vec Ideal ⟨1, ![512]⟩ .f32)
    (scoreW : Vec Ideal ⟨2, ![1, 512]⟩ .f32) (scoreB : Vec Ideal ⟨1, ![1]⟩ .f32) : Weights where
  lnG k := lnG (ix1 k)
  lnB k := lnB (ix1 k)
  wIh j k := wIh (ix2 j k)
  wHh j k := wHh (ix2 j k)
  bIh j := bIh (ix1 j)
  bHh j := bHh (ix1 j)
  l1W j k := l1W (ix2 j k)
  l1B j := l1B (ix1 j)
  l2aW j k := l2aW (ix2 j k)
  l2aB j := l2aB (ix1 j)
  l2bW j k := l2bW (ix2 j k)
  l2bB j := l2bB (ix1 j)
  ln2G k := ln2G (ix1 k)
  ln2B k := ln2B (ix1 k)
  scoreW k := scoreW (ix2 0 k)
  scoreB := scoreB (ix1 0)

end Cert.Spec
-- ==== Proof.Arrays.lean ====
/-
  WHAT THE KERNEL LEAVES. Grid point `t` reads molecule `t` and all of the parameters, and writes row `t` of both results;
  the sixteen rows are the arrays. So the arrays the kernel leaves are `Spec`'s spectrum and probability of every molecule.
-/
module

public import proofs.«01_k».proof.Proof.Block
public import proofs.«01_k».proof.Proof.Inputs
public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Where the windows that move stand at point `t`: at row `t`. -/
theorem idx_moving : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_22.index t = ![t.val, 0, 0] ∧ win0_23.index t = ![t.val, 0, 0] :=
  (by decide +kernel : ∀ t : Fin grid0.N, _)

/-- Where the parameters' windows stand at every point: at the whole array. -/
theorem idx_fixed : ∀ t : Fin cfg0.N,
    win0_6.index t = ![0, 0] ∧ win0_7.index t = ![0, 0] ∧ win0_8.index t = ![0, 0] ∧ win0_9.index t = ![0, 0]
      ∧ win0_10.index t = ![0, 0] ∧ win0_11.index t = ![0, 0] ∧ win0_12.index t = ![0, 0] ∧ win0_13.index t = ![0, 0]
      ∧ win0_14.index t = ![0, 0] ∧ win0_15.index t = ![0, 0] ∧ win0_16.index t = ![0, 0] ∧ win0_17.index t = ![0, 0]
      ∧ win0_18.index t = ![0, 0] ∧ win0_19.index t = ![0, 0] ∧ win0_20.index t = ![0, 0] ∧ win0_21.index t = ![0, 0] :=
  (by decide +kernel : ∀ t : Fin grid0.N, _)

/-- Molecule `b` of the kernel's arguments. -/
def molOf (b : Fin 16) : Spec.Molecule :=
  Spec.molecule (m ((c : Thread nD τ).loc main_arg0)) (m ((c : Thread nD τ).loc main_arg1))
    (m ((c : Thread nD τ).loc main_arg2)) (m ((c : Thread nD τ).loc main_arg4)) (m ((c : Thread nD τ).loc main_arg5)) b

/-- The parameters among the kernel's arguments. -/
def wtsOf : Spec.Weights :=
  Spec.weights (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21))

set_option maxHeartbeats 2000000 in
/-- The blocks of point `t` hold molecule `t`. -/
theorem mol_blocks (t : Fin cfg0.N) :
    mol (iblk m c 0 t) (iblk m c 1 t) (iblk m c 2 t) (iblk m c 3 t) (iblk m c 4 t) (iblk m c 5 t)
      = molOf m c (Fin.cast N_0 t) := by
  simp only [mol, molOf, Spec.molecule, Spec.Molecule.mk.injEq]
  refine ⟨?_, ?_, ?_, ?_, ?_, ?_⟩
  · funext a g
    blk_simp [iblk, idx_moving t]; entry_read; pointwise
    blk_ext [idx_moving t]
  · funext a
    blk_simp [iblk, idx_moving t]; entry_read; pointwise
    blk_ext [idx_moving t]
  · funext a k
    blk_ext [iblk, V, idx_moving t]
    simp
  · funext s a
    blk_ext [iblk, V, idx_moving t]
    simp
  · funext s p
    blk_simp [iblk, idx_moving t]; entry_read; pointwise
    blk_ext [idx_moving t]
  · funext s p
    blk_simp [iblk, idx_moving t]; entry_read; pointwise
    blk_ext [idx_moving t]

set_option maxHeartbeats 2000000 in
/-- The blocks of every point hold the parameters. -/
theorem wts_blocks (t : Fin cfg0.N) :
    wts (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t) (iblk m c 18 t) (iblk m c 19 t)
        (iblk m c 20 t) (iblk m c 21 t)
      = wtsOf m c := by
  simp only [wts, wtsOf, Spec.weights, Spec.Weights.mk.injEq]
  refine ⟨?_, ?_, ?_, ?_, ?_, ?_, ?_, ?_, ?_, ?_, ?_, ?_, ?_, ?_, ?_, ?_⟩
  all_goals first
    | (funext j k; blk_ext [iblk, V, idx_fixed t]; done)
    | (funext k; blk_simp [iblk, idx_fixed t]; entry_read; pointwise; blk_ext [idx_fixed t]; done)
    | (funext k; blk_ext [iblk, V, idx_fixed t]; done)
    | (blk_simp [iblk, idx_fixed t]; entry_read; pointwise; blk_ext [idx_fixed t]; done)

/-- The spectra of the sixteen molecules, one a row. -/
def spectra : S16x1x512.Idx → Elt Ideal .f32 := fun i => Spec.spectrum (wtsOf m c) (molOf m c (i 0)) (i 2)

/-- The probabilities of the sixteen molecules' subsets, one molecule a row. -/
def probs : S16x128x1.Idx → Elt Ideal .f32 := fun i => Spec.prob (wtsOf m c) (molOf m c (i 0)) (i 1)

/-- The kernel's first result is the spectra. -/
theorem final_spectra : (dats m 0 c).arrAt 22 cfg0.N = spectra m c := by
  refine (dats m 0 c).arrAt_eq_of_covers 22 _ (by decide +kernel) fun t hf y => ?_
  blk_simp
  rw [after0_22]
  let l : Fin 512 := y 2
  have hy : y = (ix3 0 0 l : S1x1x512.Idx) := by blk_ext
  have he : (win0_22.blk t).view.emb y = ix3 (Fin.cast N_0 t) 0 l := by
    blk_ext [idx_moving t]
    rfl
  rw [he, hy, out_spectrum, mol_blocks, wts_blocks]
  rfl

/-- The kernel's second result is the probabilities. -/
theorem final_probs : (dats m 0 c).arrAt 23 cfg0.N = probs m c := by
  refine (dats m 0 c).arrAt_eq_of_covers 23 _ (by decide +kernel) fun t hf y => ?_
  blk_simp
  rw [after0_23]
  let s : Fin 128 := y 1
  have hy : y = (ix3 0 s 0 : S1x128x1.Idx) := by blk_ext
  have he : (win0_23.blk t).view.emb y = ix3 (Fin.cast N_0 t) s 0 := by
    blk_ext [idx_moving t]
    rfl
  rw [he, hy, out_prob, mol_blocks, wts_blocks]
  rfl

end Cert.KernelIdeal.Block
-- ==== Proof.RefState.lean ====
/-
  THE REFERENCE'S POOLING. The reference's mean feature of a subset and its layer norm, read index by index on the
  extended reals, are `Spec`'s.
-/
module

public import proofs.«01_k».proof.Proof.Inputs
public import proofs.«01_k».proof.Proof.Gen.ReferenceIdeal.Run

@[expose] public section

set_option maxRecDepth 16384

noncomputable section

namespace Cert.ReferenceIdeal.Read

open Cert.ReferenceIdeal Cert.ReferenceIdeal.Value Idealize.ShloMosaic

variable (V0 : Valuation τ sig (Elt Ideal))

/-- Molecule `b` of the reference's arguments. -/
def molOf (b : Fin 16) : Spec.Molecule :=
  Spec.molecule (V0 (Proc.devRef .tc main_arg0)) (V0 (Proc.devRef .tc main_arg1)) (V0 (Proc.devRef .tc main_arg2))
    (V0 (Proc.devRef .tc main_arg4)) (V0 (Proc.devRef .tc main_arg5)) b

/-- The parameters among the reference's arguments. -/
def wtsOf : Spec.Weights :=
  Spec.weights (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) (V0 (Proc.devRef .tc main_arg17))
    (V0 (Proc.devRef .tc main_arg18)) (V0 (Proc.devRef .tc main_arg19)) (V0 (Proc.devRef .tc main_arg20))
    (V0 (Proc.devRef .tc main_arg21))

/-- Where subset `s` of molecule `b` stands among all subsets. -/
def row (b : Fin 16) (s : Fin 128) : Fin 2048 := ⟨b.val * 128 + s.val, by omega⟩

/-- The molecule a subset's place names. -/
theorem row_div (b : Fin 16) (s : Fin 128) (h : (row b s).val / 128 < 16) : (⟨(row b s).val / 128, h⟩ : Fin 16) = b :=
  Fin.ext (by simp only [row]; omega)

/-- The subset a subset's place names. -/
theorem row_mod (b : Fin 16) (s : Fin 128) (h : (row b s).val % 128 < 128) :
    (⟨(row b s).val % 128, h⟩ : Fin 128) = s :=
  Fin.ext (by simp only [row]; omega)

/-- The masked subset. -/
theorem v7_at (b : Fin 16) (s : Fin 128) (a : Fin 48) :
    res_main_v7 (F := Ideal) V0 (ix3 b s a) = (molOf V0 b).subs s a * (molOf V0 b).mask a := by
  pointwise [res_main_v7]
  rfl

/-- The mean feature of each subset. -/
theorem v46_at (b : Fin 16) (s : Fin 128) (g : Fin 256) :
    res_main_v46 (F := Ideal) V0 (ix3 b s g) = Spec.pooled (molOf V0 b) s g := by
  pointwise [res_main_v46]
  simp only [v7_at]
  rfl

/-- The mean of the mean feature. -/
theorem v50_at (b : Fin 16) (s : Fin 128) :
    res_main_v50 (F := Ideal) V0 (ix3 b s 0) = Spec.avg ((256 : ℝ) : EReal) (Spec.pooled (molOf V0 b) s) := by
  pointwise [res_main_v50]
  simp only [v46_at, Spec.const_256]
  rfl

/-- The layer norm of the mean feature. -/
theorem v71_at (b : Fin 16) (s : Fin 128) (g : Fin 256) :
    res_main_v71 (F := Ideal) V0 (ix2 (row b s) g) = Spec.state (wtsOf V0) (molOf V0 b) s g := by
  pointwise [res_main_v71, res_main_v52]
  simp only [row_div, row_mod, v46_at, v50_at, Spec.const_256]
  rfl

end Cert.ReferenceIdeal.Read
-- ==== Proof.Words.lean ====
/-
  CLIPPED WORDS. Converting a whole number to a 32-bit word and clipping the word to 0 … `hi` gives the word of the clipped
  number, since the conversion saturates; and so do the infinities.
-/
module

public import proofs.«01_k».proof.Proof.Arith

@[expose] public section

noncomputable section

namespace Cert.Spec

open Idealize.ShloMosaic

/-- A small number's word, read as a signed number. -/
theorem toInt_small (n : ℕ) (h : n < 2 ^ 31) : (BitVec.ofNat 32 n).toInt = n := by
  rw [BitVec.toInt_eq_toNat_cond, BitVec.toNat_ofNat]
  omega

/-- Clipping a word as a signed number. -/
theorem minsi_maxsi (hi : ℕ) (hhi : hi < 2 ^ 31) (z : ℤ) (hlo : -2 ^ 31 ≤ z) (hz : z < 2 ^ 31) :
    IntOp.minsi (BitVec.ofNat 32 hi) (IntOp.maxsi 0#32 (BitVec.ofInt 32 z))
      = BitVec.ofNat 32 (min (hi : ℤ) (max 0 z)).toNat := by
  have e : (BitVec.ofInt 32 z).toInt = z := by
    rw [BitVec.toInt_ofInt, Int.bmod_eq_of_le] <;> omega
  have eh : (BitVec.ofNat 32 hi).toInt = hi := toInt_small hi hhi
  have e0 : (0#32).toInt = 0 := rfl
  apply BitVec.eq_of_toInt_eq
  have er : (BitVec.ofNat 32 (min (hi : ℤ) (max 0 z)).toNat).toInt = min (hi : ℤ) (max 0 z) := by
    rw [toInt_small] <;> omega
  rw [er]
  simp only [IntOp.minsi, IntOp.maxsi, BitVec.slt, e, e0, eh, decide_eq_true_eq]
  split_ifs <;> simp only [decide_eq_true_eq, e, e0, eh] at * <;> omega

/-- What a value that is a whole number or infinite becomes: as a word the clipped word, as a number the clipped number. -/
theorem clip_word (hi : ℕ) (hhi : hi < 2 ^ 31) (x : EReal) (hx : x = ⊥ ∨ x = ⊤ ∨ ∃ n : ℤ, x = ((n : ℝ) : EReal)) :
    ∃ N : ℕ, N ≤ hi ∧ IntOp.minsi (BitVec.ofNat 32 hi) (IntOp.maxsi 0#32 (Ideal.fptosi 32 x)) = BitVec.ofNat 32 N
      ∧ min ((hi : ℝ) : EReal) (max 0 x) = ((N : ℝ) : EReal) := by
  have h0 : (0 : EReal) ≤ ((hi : ℝ) : EReal) := by exact_mod_cast Nat.zero_le hi
  rcases hx with rfl | rfl | ⟨n, rfl⟩
  · refine ⟨0, Nat.zero_le _, ?_, ?_⟩
    · rw [Ideal.fptosi, Ideal.toIntClamped_bot, minsi_maxsi hi hhi _ (by norm_num) (by norm_num)]
      norm_num
    · simp [h0]
  · refine ⟨hi, le_refl _, ?_, ?_⟩
    · rw [Ideal.fptosi, Ideal.toIntClamped_top, minsi_maxsi hi hhi _ (by norm_num) (by norm_num)]
      congr 1
      norm_num
      omega
    · simp
  · refine ⟨(min (hi : ℤ) (max 0 n)).toNat, by omega, ?_, ?_⟩
    · have hf : (if (0 : ℝ) ≤ (n : ℝ) then ⌊(n : ℝ)⌋ else ⌈(n : ℝ)⌉) = n := by
        rw [Int.floor_intCast, Int.ceil_intCast, ite_self]
      rw [Ideal.fptosi, Ideal.toIntClamped_coe, hf, minsi_maxsi hi hhi _ (by norm_num) (by norm_num)]
      congr 1
      norm_num
      omega
    · have hN : (((min (hi : ℤ) (max 0 n)).toNat : ℕ) : ℝ) = min (hi : ℝ) (max 0 (n : ℝ)) := by
        have h : (((min (hi : ℤ) (max 0 n)).toNat : ℕ) : ℤ) = min (hi : ℤ) (max 0 n) := Int.toNat_of_nonneg (by omega)
        have := congrArg (fun z : ℤ => (z : ℝ)) h
        push_cast at this
        exact_mod_cast this
      rw [hN, EReal.coe_strictMono.monotone.map_min, EReal.coe_strictMono.monotone.map_max, EReal.coe_zero]

/-- A rounded value is a whole number or infinite. -/
theorem liftRound_cases (x : EReal) :
    Ideal.liftRound Ideal.roundHalfEven x = ⊥ ∨ Ideal.liftRound Ideal.roundHalfEven x = ⊤
      ∨ ∃ n : ℤ, Ideal.liftRound Ideal.roundHalfEven x = ((n : ℝ) : EReal) := by
  induction x with
  | bot => exact Or.inl rfl
  | top => exact Or.inr (Or.inl rfl)
  | coe r => exact Or.inr (Or.inr ⟨_, rfl⟩)

/-- Summing a one-hot row up to position `k`: one if the hot position is not after `k`. -/
theorem sum_onehot (N : ℕ) (hN : N ≤ 19) (k : Fin 20) :
    (∑ q : Fin 20, if q ≤ k then
        FloatOps.uitofp (F := Ideal) FTy.f32 (IntOp.cmpi .eq (BitVec.ofNat 32 N) (BitVec.ofNat 32 q.val)) else 0)
      = if ((N : ℝ) : EReal) ≤ ((k.val : ℝ) : EReal) then 1 else 0 := by
  have hq : ∀ q : Fin 20, (if q ≤ k then
        FloatOps.uitofp (F := Ideal) FTy.f32 (IntOp.cmpi .eq (BitVec.ofNat 32 N) (BitVec.ofNat 32 q.val)) else 0)
      = if q = (⟨N, by omega⟩ : Fin 20) then (if N ≤ k.val then (1 : EReal) else 0) else 0 := by
    intro q
    have hlt := q.isLt
    by_cases h : N = q.val
    · have hw : IntOp.cmpi .eq (BitVec.ofNat 32 N) (BitVec.ofNat 32 q.val) = 1#1 := by simp [IntOp.cmpi, h]
      rw [hw, if_pos (Fin.ext h.symm), uitofp_eq]
      have hk : (q ≤ k) ↔ N ≤ k.val := by rw [h]; exact Iff.rfl
      by_cases hle : N ≤ k.val
      · rw [if_pos (hk.mpr hle), if_pos hle]; simp
      · rw [if_neg (mt hk.mp hle), if_neg hle]
    · have hne : BitVec.ofNat 32 N ≠ BitVec.ofNat 32 q.val := fun e => h (by
        have := congrArg BitVec.toNat e
        simp only [BitVec.toNat_ofNat] at this
        omega)
      have hw : IntOp.cmpi .eq (BitVec.ofNat 32 N) (BitVec.ofNat 32 q.val) = 0#1 := by
        show BitVec.ofBool (BitVec.ofNat 32 N == BitVec.ofNat 32 q.val) = 0#1
        rw [beq_eq_false_iff_ne.mpr hne]; rfl
      rw [hw, if_neg fun e => h (congrArg Fin.val e).symm, uitofp_eq]
      simp
  rw [Finset.sum_congr rfl fun q _ => hq q, Finset.sum_ite_eq' Finset.univ, if_pos (Finset.mem_univ _)]
  congr 1
  simp

end Cert.Spec
-- ==== Proof.RefCode.lean ====
/-
  THE REFERENCE'S CODE OF A SUBSET'S FORMULA. The reference writes the clipped element counts as one-hot rows of twenty and
  sums each row up to every position; that is `Spec`'s thermometer code, and its layer is the layer of `Spec`.
-/
module

public import proofs.«01_k».proof.Proof.RefState
public import proofs.«01_k».proof.Proof.Words

@[expose] public section

set_option maxRecDepth 16384

noncomputable section

namespace Cert.ReferenceIdeal.Read

open Cert.ReferenceIdeal Cert.ReferenceIdeal.Value Idealize.ShloMosaic

variable (V0 : Valuation τ sig (Elt Ideal))

/-- Adding terms one after another to a starting value adds their sum. -/
theorem foldl_add {α : Type} (l : List α) (g : α → EReal) (v : EReal) :
    l.foldl (fun r n => r + g n) v = v + (l.map g).sum := by
  induction l generalizing v with
  | nil => simp
  | cons a l ih => simp only [List.foldl_cons, ih, List.map_cons, List.sum_cons, add_assoc]

/-- A window of twenty columns ending at each column: the row's sum up to that column. -/
theorem window_at (x : Vec Ideal S2048x20 .f32) (h : S2048x20.ReduceWindows (![1, 20] : Fin 2 → ℕ) ![1, 1] ![0, 19] ![0, 0] S2048x20)
    (hb : S_.BroadcastsInDim S_ ![])
    (hu : 0 < S_.numel) (r : Fin 2048) (k : Fin 20) :
    Host.reduceWindowAdd (F := Ideal) (φ := .f32) (s := S2048x20) ![1, 20] ![1, 1] ![0, 19] ![0, 0] x
        (broadcastInDim S_ ![] hb (constant S_ .f32 0x00000000#32)) h hu (ix2 r k)
      = ∑ q : Fin 20, if q ≤ k then x (ix2 r q) else 0 := by
  have hv : broadcastInDim S_ ![] hb (constant (F := Ideal) S_ .f32 0x00000000#32) (Shape.Idx.first hu) = (0 : EReal) := by
    pointwise
  unfold Host.reduceWindowAdd
  simp only [Ideal.hostReduceWindowAdd_def, Ideal.hostReduceWindowAdd, Host.reduceWindow, hv]
  rw [foldl_add, zero_add, ← Fin.sum_univ_def, ← Equiv.sum_comp (Shape.rowMajor ⟨2, ![1, 20]⟩)]
  simp only [Equiv.symm_apply_apply]
  rw [sum_idx2, Fin.sum_univ_one]
  have hk := k.isLt
  have key : ∀ w : Fin 20, (∀ a : Fin 2, (![0, 19] : Fin 2 → ℕ) a
        ≤ ((ix2 r k : S2048x20.Idx) a).val * (![1, 1] : Fin 2 → ℕ) a + ((ix2 0 w : (⟨2, ![1, 20]⟩ : Shape).Idx) a).val
      ∧ ((ix2 r k : S2048x20.Idx) a).val * (![1, 1] : Fin 2 → ℕ) a + ((ix2 0 w : (⟨2, ![1, 20]⟩ : Shape).Idx) a).val
          - (![0, 19] : Fin 2 → ℕ) a < S2048x20.size a)
      ↔ 19 ≤ k.val + w.val := by
    intro w
    have hr := r.isLt
    have hw := w.isLt
    rw [Fin.forall_fin_two]
    show (0 ≤ r.val * 1 + 0 ∧ r.val * 1 + 0 - 0 < 2048) ∧ (19 ≤ k.val * 1 + w.val ∧ k.val * 1 + w.val - 19 < 20) ↔ _
    omega
  refine (Finset.sum_congr rfl fun w _ => (?_ : _ = if 19 ≤ k.val + w.val then
    x (ix2 r ⟨(k.val + w.val - 19) % 20, Nat.mod_lt _ (by norm_num)⟩) else 0)).trans ?_
  · by_cases hw : 19 ≤ k.val + w.val
    · rw [if_pos hw]
      refine (dif_pos ((key w).mpr hw)).trans (congrArg x (funext fun a => Fin.ext ?_))
      have hlt := w.isLt
      match a with
      | ⟨0, _⟩ =>
        show r.val * 1 + 0 - 0 = r.val
        omega
      | ⟨1, _⟩ =>
        show k.val * 1 + w.val - 19 = (k.val + w.val - 19) % 20
        omega
    · rw [if_neg hw]
      exact dif_neg fun h' => hw ((key w).mp h')
  · rw [← Finset.sum_filter, ← Finset.sum_filter]
    refine Finset.sum_nbij' (fun w => ⟨(k.val + w.val - 19) % 20, Nat.mod_lt _ (by norm_num)⟩)
      (fun q => ⟨(q.val + 19 - k.val) % 20, Nat.mod_lt _ (by norm_num)⟩) ?_ ?_ ?_ ?_ fun _ _ => rfl
    all_goals
      intro w hw
      have hlt := w.isLt
      simp only [Finset.mem_filter, Finset.mem_univ, true_and, Fin.le_def, Fin.ext_iff] at hw ⊢
      omega

/-- The element counts of each subset, as words. -/
theorem v13_at (b : Fin 16) (s : Fin 128) (k : Fin 5) :
    res_main_v13 (F := Ideal) V0 (ix2 (row b s) k) = Ideal.fptosi 32 (Spec.count (molOf V0 b) s k) := by
  pointwise [res_main_v13]
  simp only [row_div, row_mod]
  rfl

/-- The code's layer: five columns of twenty side by side against the weight's rows. -/
theorem layer_at (c0 c1 c2 c3 c4 : Vec Ideal S2048x20 .f32) (w : Vec Ideal S768x100 .f32) (r : Fin 2048) (j : Fin 768) :
    Host.dotGeneral (F := Ideal) (φ₁ := .f32) (φ₂ := .f32) dot_S2048x100_S100x768_S2048x768_1_0_0_1_n_n none
        (shapeCast _ (shapeCast _ (concatenate S2048x100 1 [⟨S2048x20, c0⟩, ⟨S2048x20, c1⟩, ⟨S2048x20, c2⟩, ⟨S2048x20, c3⟩, ⟨S2048x20, c4⟩]
          Gen.concatenates_S2048x20_S2048x20_S2048x20_S2048x20_S2048x20_S2048x100_d1 : Vec Ideal S2048x100 .f32)
            Gen.shapeCasts_S2048x100_S16x128x100) Gen.shapeCasts_S16x128x100_S2048x100)
        (transpose S100x768 [1, 0] w Gen.transposes_S768x100_S100x768_1_0) (ix2 r j)
      = ∑ f : Fin 100, (if h : f.val < 20 then c0 (ix2 r ⟨f.val, h⟩) else if h : f.val - 20 < 20 then c1 (ix2 r ⟨f.val - 20, h⟩)
          else if h : f.val - 20 - 20 < 20 then c2 (ix2 r ⟨f.val - 20 - 20, h⟩)
          else if h : f.val - 20 - 20 - 20 < 20 then c3 (ix2 r ⟨f.val - 20 - 20 - 20, h⟩)
          else c4 (ix2 r ⟨f.val - 20 - 20 - 20 - 20, by omega⟩)) * w (ix2 j f) := by
  pointwise

/-- One column of the code: one at the positions from the clipped word on. -/
theorem column_at (v : Vec Ideal S2048 .i32) (n : ℤ) (r : Fin 2048) (k : Fin 20)
    (hv : v (ix1 r) = Ideal.fptosi 32 ((n : ℝ) : EReal)) :
    Host.reduceWindowAdd (F := Ideal) (φ := .f32) ![1, 20] ![1, 1] ![0, 19] ![0, 0]
        (uitofp .f32 (cmpi .eq
          (broadcastInDim S2048x20 ![0, 1] Gen.bcast_S2048x1_S2048x20_0_1
            (broadcastInDim S2048x1 ![0] Gen.bcast_S2048_S2048x1_0
              (minsi (broadcastInDim S2048 ![] Gen.bcast_S_S2048 (id (constantI S_ 32 19#32)))
                (maxsi (broadcastInDim S2048 ![] Gen.bcast_S_S2048 (id (constantI S_ 32 0#32))) v))))
          (broadcastInDim S2048x20 ![0, 1] Gen.bcast_S1x20_S2048x20_0_1 (iotaInDim S1x20 32 1))))
        (broadcastInDim S_ ![] Gen.bcast_S_S_ (constant S_ .f32 0x00000000#32))
        Gen.reduceWindows_S2048x20_S2048x20_w1s1p0_0_w20s1p19_0 Gen.h_S_ (ix2 r k)
      = if min ((19 : ℝ) : EReal) (max 0 ((n : ℝ) : EReal)) ≤ ((k.val : ℝ) : EReal) then 1 else 0 := by
  refine (window_at _ _ _ _ r k).trans ?_
  pointwise
  rw [hv]
  obtain ⟨N, hN, hw, hc⟩ := Spec.clip_word 19 (by norm_num) ((n : ℝ) : EReal) (Or.inr (Or.inr ⟨n, rfl⟩))
  have hc' : min ((19 : ℝ) : EReal) (max 0 ((n : ℝ) : EReal)) = ((N : ℝ) : EReal) := by exact_mod_cast hc
  rw [hc', ← Spec.sum_onehot N hN k, ← hw]
  rfl

/-- An element count is a whole number. -/
theorem count_int (b : Fin 16) (s : Fin 128) (k : Fin 5) : ∃ n : ℤ, Spec.count (molOf V0 b) s k = ((n : ℝ) : EReal) := by
  refine ⟨∑ a, (V0 (Proc.devRef .tc main_arg4) (ix3 b s a)).toInt * (V0 (Proc.devRef .tc main_arg2) (ix3 b a k)).toInt, ?_⟩
  simp only [Spec.count, molOf, Spec.molecule, Int.cast_sum, Int.cast_mul, ← EReal.coe_mul]
  exact (map_sum (⟨⟨Real.toEReal, EReal.coe_zero⟩, EReal.coe_add⟩ : ℝ →+ EReal) _ _).symm

/-- The thermometer code against the input weights. -/
theorem v74_at (b : Fin 16) (s : Fin 128) (j : Fin 768) :
    res_main_v74 (F := Ideal) V0 (ix2 (row b s) j)
      = ∑ f, Spec.formula (molOf V0 b) s f * (wtsOf V0).wIh j f := by
  unfold res_main_v74
  refine (layer_at _ _ _ _ _ _ _ _).trans ?_
  refine Finset.sum_congr rfl fun f _ => congrArg₂ (· * ·) ?_ rfl
  obtain ⟨n, hn⟩ := count_int V0 b s ⟨f.val / 20, by omega⟩
  obtain ⟨P, hP⟩ : ∃ P : ℕ → EReal, ∀ q : ℕ,
      P q = if min ((19 : ℝ) : EReal) (max 0 ((n : ℝ) : EReal)) ≤ ((q : ℝ) : EReal) then 1 else 0 := ⟨_, fun _ => rfl⟩
  rw [Spec.formula, hn, ← hP]
  have hf := f.isLt
  split_ifs
  all_goals
    refine (column_at _ n _ _ ?_).trans ?_
    · pointwise
      refine (v13_at V0 b s _).trans ((congrArg (fun k => Ideal.fptosi 32 (Spec.count (molOf V0 b) s k)) ?_).trans
        (congrArg (Ideal.fptosi 32) hn))
      refine Fin.ext ?_
      norm_num
      omega
    · refine (hP _).symm.trans (congrArg P ?_)
      dsimp only
      omega

end Cert.ReferenceIdeal.Read
-- ==== Proof.RefScore.lean ====
/-
  THE REFERENCE'S NETWORK. The recurrent cell, the three rectified layers, the score and the softmax of the reference, read
  index by index on the extended reals, are `Spec`'s.
-/
module

public import proofs.«01_k».proof.Proof.RefCode
public import Idealize.ShloMosaic.Lib.Tactic.CleanTypes

@[expose] public section

set_option maxRecDepth 16384

noncomputable section

namespace Cert.ReferenceIdeal.Read

open Cert.ReferenceIdeal Cert.ReferenceIdeal.Value Idealize.ShloMosaic

variable (V0 : Valuation τ sig (Elt Ideal))

/-- The input's gates. -/
theorem v77_at (b : Fin 16) (s : Fin 128) (j : Fin 768) :
    res_main_v77 (F := Ideal) V0 (ix2 (row b s) j)
      = Spec.affine (wtsOf V0).wIh (wtsOf V0).bIh (Spec.formula (molOf V0 b) s) j := by
  pointwise [res_main_v77]
  rw [v74_at]
  rfl

/-- The state's gates. -/
theorem v82_at (b : Fin 16) (s : Fin 128) (j : Fin 768) :
    res_main_v82 (F := Ideal) V0 (ix2 (row b s) j)
      = Spec.affine (wtsOf V0).wHh (wtsOf V0).bHh (Spec.state (wtsOf V0) (molOf V0 b) s) j := by
  pointwise [res_main_v82]
  simp only [v71_at]
  rfl

/-- The update gate. -/
theorem v102_at (b : Fin 16) (s : Fin 128) (g : Fin 256) :
    res_main_v102 (F := Ideal) V0 (ix2 (row b s) g)
      = Ideal.logistic (Spec.affine (wtsOf V0).wIh (wtsOf V0).bIh (Spec.formula (molOf V0 b) s) ⟨256 + g.val, by omega⟩
          + Spec.affine (wtsOf V0).wHh (wtsOf V0).bHh (Spec.state (wtsOf V0) (molOf V0 b) s) ⟨256 + g.val, by omega⟩) := by
  pointwise [res_main_v102]
  simp only [v77_at, v82_at]
  rfl

/-- A subset's place, as a reshape writes it. -/
theorem row_mk (b : Fin 16) (s : Fin 128) (h : b.val * 128 + s.val < 2048) :
    (⟨b.val * 128 + s.val, h⟩ : Fin 2048) = row b s := rfl

/-- The cell and the three rectified layers. -/
theorem v130_at (b : Fin 16) (s : Fin 128) (n : Fin 512) :
    res_main_v130 (F := Ideal) V0 (ix3 b s n) = Spec.hidden (wtsOf V0) (molOf V0 b) s n := by
  pointwise [res_main_v130]
  simp only [row_mk, v71_at, v77_at, v82_at, v102_at]
  rw [max_eq_left (le_max_right _ _)]
  rfl

/-- The mean of the last layer. -/
theorem v134_at (b : Fin 16) (s : Fin 128) :
    res_main_v134 (F := Ideal) V0 (ix3 b s 0)
      = Spec.avg ((512 : ℝ) : EReal) (Spec.hidden (wtsOf V0) (molOf V0 b) s) := by
  pointwise [res_main_v134]
  simp only [v130_at, Spec.const_512]
  rfl

/-- The scores. -/
theorem v160_at (b : Fin 16) (s : Fin 128) :
    res_main_v160 (F := Ideal) V0 (ix2 b s) = Spec.score (wtsOf V0) (molOf V0 b) s := by
  pointwise [res_main_v160, res_main_v136]
  simp only [v130_at, v134_at, Spec.const_512]
  rfl

/-- The exponentials of the softmax. -/
theorem v167_at (b : Fin 16) (s : Fin 128) :
    res_main_v167 (F := Ideal) V0 (ix2 b s)
      = Ideal.exp (Spec.score (wtsOf V0) (molOf V0 b) s - Finset.univ.fold max ⊥ (Spec.score (wtsOf V0) (molOf V0 b))) := by
  unfold res_main_v167
  clean_types
  pointwise
  simp only [v160_at, Spec.const_bot]
  rw [max_eq_right bot_le]

/-- The probabilities. -/
theorem v171_at (b : Fin 16) (s : Fin 128) :
    res_main_v171 (F := Ideal) V0 (ix2 b s) = Spec.prob (wtsOf V0) (molOf V0 b) s := by
  pointwise [res_main_v171]
  simp only [v167_at]
  rfl

end Cert.ReferenceIdeal.Read
-- ==== Proof.RefSpectrum.lean ====
/-
  THE REFERENCE'S SPECTRA. The reference adds every peak's weighted intensity, one after another, into a line of 16 × 512
  bins at the place its molecule and its rounded mass name. Bin `l` of molecule `b` then holds the sum of `Spec`.
-/
module

public import proofs.«01_k».proof.Proof.RefScore

@[expose] public section

set_option maxRecDepth 16384

noncomputable section

namespace Cert.ReferenceIdeal.Read

open Cert.ReferenceIdeal Cert.ReferenceIdeal.Value Idealize.ShloMosaic

variable (V0 : Valuation τ sig (Elt Ideal))

/-- Where peak `p` of subset `s` of molecule `b` stands among all peaks. -/
def peak (b : Fin 16) (s : Fin 128) (p : Fin 8) : Fin 16384 := ⟨(b.val * 128 + s.val) * 8 + p.val, by omega⟩

/-- The peaks, one after another, are the peaks of every subset of every molecule. -/
def peakEquiv : Fin 16 × Fin 128 × Fin 8 ≃ Fin 16384 where
  toFun q := peak q.1 q.2.1 q.2.2
  invFun i := (⟨i.val / 1024, by omega⟩, ⟨i.val / 8 % 128, by omega⟩, ⟨i.val % 8, by omega⟩)
  left_inv q := by
    obtain ⟨b, s, p⟩ := q
    refine Prod.ext (Fin.ext ?_) (Prod.ext (Fin.ext ?_) (Fin.ext ?_)) <;> simp only [peak] <;> omega
  right_inv i := Fin.ext (by simp only [peak]; omega)

/-- An update lands at `x` exactly where its index word, read as a signed number, is `x`. -/
theorem lands_at (idx : Vec Ideal S16384x1 .i32) (i : Fin 16384) (x : Fin 8192) :
    scatter_S8192_S16384x1_S16384_n_0_0_1.resultIdx? (ix1 i : S16384.Idx) idx = some (ix1 x : S8192.Idx)
      ↔ (idx (ix2 i 0)).toInt = (x.val : ℤ) := by
  have hs : ∀ h, scatter_S8192_S16384x1_S16384_n_0_0_1.siIdx (ix1 i : S16384.Idx) ⟨0, h⟩ = (ix2 i 0 : S16384x1.Idx) := by
    intro h
    funext a
    match a with
    | ⟨0, _⟩ => rfl
    | ⟨1, _⟩ => rfl
  have hstart : scatter_S8192_S16384x1_S16384_n_0_0_1.start (ix1 i : S16384.Idx) idx 0 = (idx (ix2 i 0)).toInt := by
    unfold ScatterDims.start
    rw [dif_pos (by decide)]
    exact congrArg (fun j => (idx j).toInt) (hs _)
  have hwin : scatter_S8192_S16384x1_S16384_n_0_0_1.window (ix1 i : S16384.Idx) 0 = 0 := rfl
  have hx := x.isLt
  unfold ScatterDims.resultIdx?
  split
  · next h =>
    have h0 := (h 0).1
    rw [hstart, hwin] at h0
    rw [Option.some_inj]
    constructor
    · intro e
      have e0 : (scatter_S8192_S16384x1_S16384_n_0_0_1.start (ix1 i : S16384.Idx) idx 0
          + (scatter_S8192_S16384x1_S16384_n_0_0_1.window (ix1 i : S16384.Idx) 0 : ℤ)).toNat = x.val :=
        congrArg Fin.val (congrFun e 0)
      rw [hstart, hwin] at e0
      omega
    · intro e
      refine funext fun a => Fin.ext ?_
      obtain rfl : a = 0 := Subsingleton.elim _ _
      show (scatter_S8192_S16384x1_S16384_n_0_0_1.start (ix1 i : S16384.Idx) idx 0
          + (scatter_S8192_S16384x1_S16384_n_0_0_1.window (ix1 i : S16384.Idx) 0 : ℤ)).toNat = x.val
      rw [hstart, hwin]
      omega
  · next h =>
    refine ⟨fun e => (by cases e), fun e => (h fun a => ?_).elim⟩
    obtain rfl : a = 0 := Subsingleton.elim _ _
    rw [hstart, hwin]
    show _ ∧ _ < (8192 : ℤ)
    omega

/-- Adding updates at their index words: each place gains the sum of the updates whose word names it. -/
theorem scatter_at (x : Vec Ideal S8192 .f32) (idx : Vec Ideal S16384x1 .i32) (upd : Vec Ideal S16384 .f32) (k : Fin 8192) :
    Host.scatterAdd (F := Ideal) (φ := .f32) scatter_S8192_S16384x1_S16384_n_0_0_1 x idx upd (ix1 k)
      = x (ix1 k) + ∑ i : Fin 16384, if (idx (ix2 i 0)).toInt = (k.val : ℤ) then upd (ix1 i) else 0 := by
  simp only [Host.scatterAdd, Ideal.hostScatterAdd_def, Ideal.hostScatterAdd]
  rw [Finset.sum_filter, sum_idx1]
  exact congrArg (x (ix1 k) + ·) (Finset.sum_congr rfl fun i _ => if_congr (lands_at idx i k) rfl rfl)

/-- The place a peak goes to: its molecule's line, at the bin of its mass. -/
theorem v188_at (b : Fin 16) (s : Fin 128) (p : Fin 8) :
    ∃ N : ℕ, N ≤ 511 ∧ res_main_v188 (F := Ideal) V0 (ix1 (peak b s p)) = BitVec.ofNat 32 (b.val * 512 + N)
      ∧ Spec.bin ((molOf V0 b).mass s p) = ((N : ℝ) : EReal) := by
  obtain ⟨N, hN, hw, hc⟩ := Spec.clip_word 511 (by norm_num) _ (Spec.liftRound_cases ((molOf V0 b).mass s p))
  refine ⟨N, hN, ?_, by exact_mod_cast hc⟩
  have h1 : ∀ h, (⟨(peak b s p).val / 1024, h⟩ : Fin 16) = b := fun h => Fin.ext (by simp only [peak]; omega)
  have h2 : ∀ h, (⟨(peak b s p).val / 8 % 128, h⟩ : Fin 128) = s := fun h => Fin.ext (by simp only [peak]; omega)
  have h3 : ∀ h, (⟨(peak b s p).val % 8, h⟩ : Fin 8) = p := fun h => Fin.ext (by simp only [peak]; omega)
  have h4 : (peak b s p).val / 1024 = b.val := by simp only [peak]; omega
  pointwise [res_main_v188]
  simp only [h1, h2, h3, h4]
  refine (congrArg (IntOp.addi (IntOp.muli (BitVec.ofNat 32 b.val) 512#32)) hw).trans ?_
  show BitVec.ofNat 32 b.val * 512#32 + BitVec.ofNat 32 N = _
  rw [BitVec.ofNat_add, BitVec.ofNat_mul]

/-- A word that is no negative number stays what it is when negative words are moved up. -/
theorem word_stays (K : ℕ) (hK : K < 2 ^ 31) :
    (Scalar.select (IntOp.cmpi .slt (BitVec.ofNat 32 K) 0#32) (IntOp.addi (BitVec.ofNat 32 K) 8192#32)
      (BitVec.ofNat 32 K)).toInt = (K : ℤ) := by
  have hn : IntOp.cmpi .slt (BitVec.ofNat 32 K) 0#32 = 0#1 := by
    show BitVec.ofBool (BitVec.slt _ _) = 0#1
    have : BitVec.slt (BitVec.ofNat 32 K) 0#32 = false := by
      rw [BitVec.slt, Spec.toInt_small K hK]
      exact decide_eq_false (by show ¬ ((K : ℤ) < 0); omega)
    rw [this]; rfl
  rw [hn]
  exact Spec.toInt_small K hK

/-- One peak's share of bin `l` of molecule `b`: its weighted intensity, if it is a peak of that
molecule and its mass falls into that bin. -/
theorem share_at (b b' : Fin 16) (l : Fin 512) (s : Fin 128) (p : Fin 8) (y : EReal) :
    (if (Scalar.select (IntOp.cmpi .slt (res_main_v188 V0 (ix1 (peak b' s p))) 0#32)
          (IntOp.addi (res_main_v188 V0 (ix1 (peak b' s p))) 8192#32)
          (res_main_v188 V0 (ix1 (peak b' s p)))).toInt = ((b.val * 512 + l.val : ℕ) : ℤ) then y else 0)
      = if b' = b then (if Spec.bin ((molOf V0 b').mass s p) = ((l.val : ℝ) : EReal) then y else 0) else 0 := by
  obtain ⟨N, hN, hw, hc⟩ := v188_at V0 b' s p
  have hl := l.isLt
  have hb := b'.isLt
  rw [hw, word_stays _ (by omega), hc]
  have hN' : (((N : ℝ) : EReal) = ((l.val : ℝ) : EReal)) ↔ N = l.val := by
    rw [EReal.coe_eq_coe_iff, Nat.cast_inj]
  by_cases e : b' = b
  · subst e
    rw [if_pos rfl]
    exact if_congr (by rw [hN', Nat.cast_inj]; omega) rfl rfl
  · rw [if_neg e, if_neg]
    rw [Nat.cast_inj]
    intro h
    exact e (Fin.ext (by omega))

/-- The spectra, before the last reshapes. -/
def spectra : Vec Ideal S16x1x512 .f32 :=
  shapeCast _ (shapeCast _ (Host.scatterAdd (F := Ideal) (φ := .f32) scatter_S8192_S16384x1_S16384_n_0_0_1
    (broadcastInDim S8192 ![] Gen.bcast_S_S8192 (constant S_ .f32 0x00000000#32))
    (broadcastInDim S16384x1 ![0] Gen.bcast_S16384_S16384x1_0
      (select (cmpi .slt (res_main_v188 V0) (broadcastInDim S16384 ![] Gen.bcast_S_S16384 (constantI S_ 32 0#32)))
        (addi (res_main_v188 V0) (broadcastInDim S16384 ![] Gen.bcast_S_S16384 (constantI S_ 32 8192#32)))
        (res_main_v188 V0)))
    (shapeCast _ (mulf
      (shapeCast _ (extractStridedSlice S16x128x8x1 ![0, 0, 0, 1] (V0 (Proc.devRef .tc main_arg5))
        Gen.slices_S16x128x8x2_S16x128x8x1_0_0_0_1) Gen.shapeCasts_S16x128x8x1_S16x128x8)
      (broadcastInDim S16x128x8 ![0, 1, 2] Gen.bcast_S16x128x1_S16x128x8_0_1_2
        (broadcastInDim S16x128x1 ![0, 1] Gen.bcast_S16x128_S16x128x1_0_1 (res_main_v171 V0))))
      Gen.shapeCasts_S16x128x8_S16384)) Gen.shapeCasts_S8192_S16x512) Gen.shapeCasts_S16x512_S16x1x512

/-- Bin `l` of molecule `b`. -/
theorem spectra_at (b : Fin 16) (l : Fin 512) : spectra V0 (ix3 b 0 l) = Spec.spectrum (wtsOf V0) (molOf V0 b) l := by
  unfold spectra
  pointwise
  refine (scatter_at _ _ _ _).trans ?_
  pointwise
  rw [← Equiv.sum_comp peakEquiv, Fintype.sum_prod_type]
  simp only [Fintype.sum_prod_type]
  refine (Finset.sum_congr rfl fun b' _ => Finset.sum_congr rfl fun s _ => Finset.sum_congr rfl fun p _ =>
    share_at V0 b b' l s p _).trans ?_
  refine (Finset.sum_eq_single b (fun b' _ e => ?_) (fun h => (h (Finset.mem_univ b)).elim)).trans ?_
  · exact Finset.sum_eq_zero fun s _ => Finset.sum_eq_zero fun p _ => if_neg e
  · unfold Spec.spectrum
    refine Finset.sum_congr rfl fun s _ => Finset.sum_congr rfl fun p _ => ?_
    rw [if_pos rfl]
    refine if_congr Iff.rfl ?_ rfl
    have hp : peakEquiv (b, s, p) = peak b s p := rfl
    have h1 : ∀ h, (⟨(peak b s p).val / 1024, h⟩ : Fin 16) = b := fun h => Fin.ext (by simp only [peak]; omega)
    have h2 : ∀ h, (⟨(peak b s p).val / 8 % 128, h⟩ : Fin 128) = s := fun h => Fin.ext (by simp only [peak]; omega)
    have h3 : ∀ h, (⟨(peak b s p).val % 8, h⟩ : Fin 8) = p := fun h => Fin.ext (by simp only [peak]; omega)
    simp only [hp, h1, h2, h3, v171_at]
    rfl

end Cert.ReferenceIdeal.Read
-- ==== Proof.RefResults.lean ====
/-
  THE REFERENCE'S RESULTS, as whole arrays: the spectrum of every molecule, and the probability of every subset of it.
-/
module

public import proofs.«01_k».proof.Proof.RefSpectrum

@[expose] public section

set_option maxRecDepth 16384

noncomputable section

namespace Cert.ReferenceIdeal.Read

open Cert.ReferenceIdeal Cert.ReferenceIdeal.Value Idealize.ShloMosaic

variable (V0 : Valuation τ sig (Elt Ideal))

/-- The first result: the spectrum of every molecule. -/
theorem spectra_eq : spectra V0 = fun i => Spec.spectrum (wtsOf V0) (molOf V0 (i 0)) (i 2) := by
  funext i
  have hi : i = ix3 (i 0) 0 (i 2) := by
    funext a
    match a with
    | ⟨0, _⟩ => rfl
    | ⟨1, _⟩ => exact Subsingleton.elim (α := Fin 1) _ _
    | ⟨2, _⟩ => rfl
  exact (congrArg (spectra V0) hi).trans (spectra_at V0 (i 0) (i 2))

/-- The second result: the probability of every subset of every molecule. -/
theorem probs_eq : shapeCast S16x128x1 (res_main_v171 V0) Gen.shapeCasts_S16x128_S16x128x1
    = fun i => Spec.prob (wtsOf V0) (molOf V0 (i 0)) (i 1) := by
  have hp : ∀ b s, shapeCast S16x128x1 (res_main_v171 V0) Gen.shapeCasts_S16x128_S16x128x1 (ix3 b s 0)
      = Spec.prob (wtsOf V0) (molOf V0 b) s := by
    intro b s
    pointwise
    exact v171_at V0 b s
  funext i
  have hi : i = ix3 (i 0) (i 1) 0 := by
    funext a
    match a with
    | ⟨0, _⟩ => rfl
    | ⟨1, _⟩ => rfl
    | ⟨2, _⟩ => exact Subsingleton.elim (α := Fin 1) _ _
  exact (congrArg (shapeCast S16x128x1 (res_main_v171 V0) Gen.shapeCasts_S16x128_S16x128x1) hi).trans (hp (i 0) (i 1))

end Cert.ReferenceIdeal.Read

end
-- ==== Proof.lean ====
/-
  THE CLAIMS, PROVED. The generated modules give the frames of the two kernel programs and the terms both programs leave;
  `Arrays` reads the kernel's as `Spec`'s spectra and probabilities, `RefResults` the reference's as the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Arrays
public import proofs.«01_k».proof.Proof.RefResults
public import Idealize.ShloMosaic.Lib.Pipeline.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference ends, its arguments as they were and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- From the same arguments the kernel and the reference leave the same spectra and the same probabilities. -/
theorem same_results : Cert.algebraic_KernelIdeal_ReferenceIdeal (hKernelIdeal := Cert.KernelIdeal.Gen.facts)
    (hReferenceIdeal := Cert.ReferenceIdeal.Gen.facts) := by
  intro m ρ m' ρ' _ hagree
  have same_weights : ∀ c, Cert.ReferenceIdeal.Read.wtsOf (launchContents m' c) = Cert.KernelIdeal.Block.wtsOf m c := by
    intro c
    obtain ⟨_, _, _, _, _, _, h6, h7, h8, h9, h10, h11, h12, h13, h14, h15, h16, h17, h18, h19, h20, h21⟩ := hagree c
    unfold Cert.ReferenceIdeal.Read.wtsOf Cert.KernelIdeal.Block.wtsOf
    congr 1
  have same_molecule : ∀ c b, Cert.ReferenceIdeal.Read.molOf (launchContents m' c) b
      = Cert.KernelIdeal.Block.molOf m c b := by
    intro c b
    obtain ⟨h0, h1, h2, _, h4, h5, _⟩ := hagree c
    unfold Cert.ReferenceIdeal.Read.molOf Cert.KernelIdeal.Block.molOf
    congr 1
  refine ⟨fun c => Cert.KernelIdeal.Block.spectra m c, fun c => Cert.KernelIdeal.Block.probs m c, ?_, ?_⟩
  · exact (θ_run Cert.KernelIdeal.defs _ _).mono
      (fun _ h c => ⟨(h c).1.trans (Cert.KernelIdeal.Block.final_spectra m c),
        (h c).2.1.trans (Cert.KernelIdeal.Block.final_probs m c), (h c).2.2⟩)
      (Cert.KernelIdeal.Value.run_blocks (F := Ideal) m ρ)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.spectra_eq (launchContents m' c)).trans ?_)
      funext i
      exact congrArg₂ (fun W D => Spec.spectrum W D (i 2)) (same_weights c) (same_molecule c (i 0))
    · refine (h c).2.1.trans ((Cert.ReferenceIdeal.Read.probs_eq (launchContents m' c)).trans ?_)
      funext i
      exact congrArg₂ (fun W D => Spec.prob W D (i 1)) (same_weights c) (same_molecule c (i 0))

/-- Everything this directory claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_results⟩

end Cert.Proof

end
